-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 2048]⟩ (Layout.meshBlock [2, 2] ![[0], [], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S2048x2048 : Shape := ⟨2, ![2048, 2048]⟩
abbrev S2048x1024 : Shape := ⟨2, ![2048, 1024]⟩
abbrev S8 : Shape := ⟨1, ![8]⟩
abbrev S_ : Shape := ⟨0, ![]⟩
abbrev S1 : Shape := ⟨1, ![1]⟩
abbrev S256x1024 : Shape := ⟨2, ![256, 1024]⟩
abbrev S1x256x1024 : Shape := ⟨3, ![1, 256, 1024]⟩

abbrev nBuf : Space → Nat
  | .hbm => 2
  | .vmem => 3
  | .smem => 0
  | _ => 0

abbrev bufTy : (tb : Table) → Fin (tcTables nBuf tb) → BufTy
  | .hbm, ⟨0, _⟩ => ⟨S1x2048x1024, .f32⟩
  | .hbm, ⟨1, _⟩ => ⟨S2048x2048, .f32⟩
  | .local _ .vmem, ⟨0, _⟩ => ⟨S1x2048x1024, .f32⟩
  | .local _ .vmem, ⟨1, _⟩ => ⟨S2048x2048, .f32⟩
  | .local _ .vmem, ⟨2, _⟩ => ⟨S2048x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v10 : BitVec 32 := Scalar.muli v6 c2_i32_5
  let v11 : BitVec 32 := Scalar.addi c0_i32 v10
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v12 : BitVec 32 := Scalar.muli v5 c1_i32_6
  let v13 : BitVec 32 := Scalar.addi v11 v12
  v13.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v14 : BitVec 32 := Scalar.muli v2 c2_i32_8
  let v15 : BitVec 32 := Scalar.addi c0_i32_9 v14
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v16 : BitVec 32 := Scalar.muli v7 c1_i32_10
  let v17 : BitVec 32 := Scalar.addi v15 v16
  v17.toNat
def k0_dev3 (d0 : Dev nD) : Nat :=
  let c0_i32_16 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_15 : BitVec 32 := 2#32
  let v18 : BitVec 32 := Scalar.muli v6 c2_i32_15
  let v19 : BitVec 32 := Scalar.addi c0_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_17 : BitVec 32 := 1#32
  let v20 : BitVec 32 := Scalar.muli v5 c1_i32_17
  let v21 : BitVec 32 := Scalar.addi v19 v20
  v21.toNat
def k0_dev4 (d0 : Dev nD) : Nat :=
  let c0_i32_26 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_25 : BitVec 32 := 2#32
  let v29 : BitVec 32 := Scalar.muli v6 c2_i32_25
  let v30 : BitVec 32 := Scalar.addi c0_i32_26 v29
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_27 : BitVec 32 := 1#32
  let v31 : BitVec 32 := Scalar.muli v5 c1_i32_27
  let v32 : BitVec 32 := Scalar.addi v30 v31
  v32.toNat
def k0_dev5 (d0 : Dev nD) : Nat :=
  let c0_i32_35 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_34 : BitVec 32 := 2#32
  let v40 : BitVec 32 := Scalar.muli v6 c2_i32_34
  let v41 : BitVec 32 := Scalar.addi c0_i32_35 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v42 : BitVec 32 := Scalar.muli v5 c1_i32_36
  let v43 : BitVec 32 := Scalar.addi v41 v42
  v43.toNat
def k0_dev6 (d0 : Dev nD) : Nat :=
  let c0_i32_43 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_42 : BitVec 32 := 2#32
  let v51 : BitVec 32 := Scalar.muli v6 c2_i32_42
  let v52 : BitVec 32 := Scalar.addi c0_i32_43 v51
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v53 : BitVec 32 := Scalar.muli v5 c1_i32_44
  let v54 : BitVec 32 := Scalar.addi v52 v53
  v54.toNat
def k0_dev7 (d0 : Dev nD) : Nat :=
  let c0_i32_51 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_50 : BitVec 32 := 2#32
  let v62 : BitVec 32 := Scalar.muli v6 c2_i32_50
  let v63 : BitVec 32 := Scalar.addi c0_i32_51 v62
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_52 : BitVec 32 := 1#32
  let v64 : BitVec 32 := Scalar.muli v5 c1_i32_52
  let v65 : BitVec 32 := Scalar.addi v63 v64
  v65.toNat
def k0_dev8 (d0 : Dev nD) : Nat :=
  let c0_i32_60 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_59 : BitVec 32 := 2#32
  let v73 : BitVec 32 := Scalar.muli v6 c2_i32_59
  let v74 : BitVec 32 := Scalar.addi c0_i32_60 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_61 : BitVec 32 := 1#32
  let v75 : BitVec 32 := Scalar.muli v5 c1_i32_61
  let v76 : BitVec 32 := Scalar.addi v74 v75
  v76.toNat
def k0_dev9 (d0 : Dev nD) : Nat :=
  let c0_i32_68 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_67 : BitVec 32 := 2#32
  let v84 : BitVec 32 := Scalar.muli v6 c2_i32_67
  let v85 : BitVec 32 := Scalar.addi c0_i32_68 v84
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_69 : BitVec 32 := 1#32
  let v86 : BitVec 32 := Scalar.muli v5 c1_i32_69
  let v87 : BitVec 32 := Scalar.addi v85 v86
  v87.toNat
def k0_dev10 (d0 : Dev nD) : Nat :=
  let c0_i32_76 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_75 : BitVec 32 := 2#32
  let v95 : BitVec 32 := Scalar.muli v6 c2_i32_75
  let v96 : BitVec 32 := Scalar.addi c0_i32_76 v95
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_77 : BitVec 32 := 1#32
  let v97 : BitVec 32 := Scalar.muli v5 c1_i32_77
  let v98 : BitVec 32 := Scalar.addi v96 v97
  v98.toNat
def k0_off1 (d0 : Dev nD) : Fin 2 → Nat :=
  let c0_95 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v119 : Index := Scalar.indexCast v8
  ![0, v119.toNat]
def k0_off2 (d0 : Dev nD) : Fin 2 → Nat :=
  let c0_i32_101 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  ![0, v8.toNat]
def k0_dev11 (d0 : Dev nD) : Nat :=
  let c0_i32_99 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_98 : BitVec 32 := 2#32
  let v121 : BitVec 32 := Scalar.muli v2 c2_i32_98
  let v122 : BitVec 32 := Scalar.addi c0_i32_99 v121
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_100 : BitVec 32 := 1#32
  let v123 : BitVec 32 := Scalar.muli v7 c1_i32_100
  let v124 : BitVec 32 := Scalar.addi v122 v123
  v124.toNat
def k0_off3 (d0 : Dev nD) : Fin 2 → Nat :=
  let c256_117 : Index := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v144 : Index := Scalar.indexCast v8
  ![256, v144.toNat]
def k0_off4 (d0 : Dev nD) : Fin 2 → Nat :=
  let c256_i32_123 : BitVec 32 := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  ![256, v8.toNat]
def k0_dev12 (d0 : Dev nD) : Nat :=
  let c0_i32_121 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_120 : BitVec 32 := 2#32
  let v146 : BitVec 32 := Scalar.muli v2 c2_i32_120
  let v147 : BitVec 32 := Scalar.addi c0_i32_121 v146
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_122 : BitVec 32 := 1#32
  let v148 : BitVec 32 := Scalar.muli v7 c1_i32_122
  let v149 : BitVec 32 := Scalar.addi v147 v148
  v149.toNat
def k0_off5 (d0 : Dev nD) : Fin 2 → Nat :=
  let c512_139 : Index := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v169 : Index := Scalar.indexCast v8
  ![512, v169.toNat]
def k0_off6 (d0 : Dev nD) : Fin 2 → Nat :=
  let c512_i32_145 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  ![512, v8.toNat]
def k0_dev13 (d0 : Dev nD) : Nat :=
  let c0_i32_143 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_142 : BitVec 32 := 2#32
  let v171 : BitVec 32 := Scalar.muli v2 c2_i32_142
  let v172 : BitVec 32 := Scalar.addi c0_i32_143 v171
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_144 : BitVec 32 := 1#32
  let v173 : BitVec 32 := Scalar.muli v7 c1_i32_144
  let v174 : BitVec 32 := Scalar.addi v172 v173
  v174.toNat
def k0_off7 (d0 : Dev nD) : Fin 2 → Nat :=
  let c768_161 : Index := 768#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v194 : Index := Scalar.indexCast v8
  ![768, v194.toNat]
def k0_off8 (d0 : Dev nD) : Fin 2 → Nat :=
  let c768_i32_167 : BitVec 32 := 768#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  ![768, v8.toNat]
def k0_dev14 (d0 : Dev nD) : Nat :=
  let c0_i32_165 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_164 : BitVec 32 := 2#32
  let v196 : BitVec 32 := Scalar.muli v2 c2_i32_164
  let v197 : BitVec 32 := Scalar.addi c0_i32_165 v196
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_166 : BitVec 32 := 1#32
  let v198 : BitVec 32 := Scalar.muli v7 c1_i32_166
  let v199 : BitVec 32 := Scalar.addi v197 v198
  v199.toNat
def k0_off9 (d0 : Dev nD) : Fin 2 → Nat :=
  let c1024_183 : Index := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v219 : Index := Scalar.indexCast v8
  ![1024, v219.toNat]
def k0_off10 (d0 : Dev nD) : Fin 2 → Nat :=
  let c1024_i32_189 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  ![1024, v8.toNat]
def k0_dev15 (d0 : Dev nD) : Nat :=
  let c0_i32_187 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_186 : BitVec 32 := 2#32
  let v221 : BitVec 32 := Scalar.muli v2 c2_i32_186
  let v222 : BitVec 32 := Scalar.addi c0_i32_187 v221
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_188 : BitVec 32 := 1#32
  let v223 : BitVec 32 := Scalar.muli v7 c1_i32_188
  let v224 : BitVec 32 := Scalar.addi v222 v223
  v224.toNat
def k0_off11 (d0 : Dev nD) : Fin 2 → Nat :=
  let c1280_205 : Index := 1280#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v244 : Index := Scalar.indexCast v8
  ![1280, v244.toNat]
def k0_off12 (d0 : Dev nD) : Fin 2 → Nat :=
  let c1280_i32_211 : BitVec 32 := 1280#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  ![1280, v8.toNat]
def k0_dev16 (d0 : Dev nD) : Nat :=
  let c0_i32_209 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_208 : BitVec 32 := 2#32
  let v246 : BitVec 32 := Scalar.muli v2 c2_i32_208
  let v247 : BitVec 32 := Scalar.addi c0_i32_209 v246
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_210 : BitVec 32 := 1#32
  let v248 : BitVec 32 := Scalar.muli v7 c1_i32_210
  let v249 : BitVec 32 := Scalar.addi v247 v248
  v249.toNat
def k0_off13 (d0 : Dev nD) : Fin 2 → Nat :=
  let c1536_227 : Index := 1536#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v269 : Index := Scalar.indexCast v8
  ![1536, v269.toNat]
def k0_off14 (d0 : Dev nD) : Fin 2 → Nat :=
  let c1536_i32_233 : BitVec 32 := 1536#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  ![1536, v8.toNat]
def k0_dev17 (d0 : Dev nD) : Nat :=
  let c0_i32_231 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_230 : BitVec 32 := 2#32
  let v271 : BitVec 32 := Scalar.muli v2 c2_i32_230
  let v272 : BitVec 32 := Scalar.addi c0_i32_231 v271
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_232 : BitVec 32 := 1#32
  let v273 : BitVec 32 := Scalar.muli v7 c1_i32_232
  let v274 : BitVec 32 := Scalar.addi v272 v273
  v274.toNat
def k0_off15 (d0 : Dev nD) : Fin 2 → Nat :=
  let c1792_249 : Index := 1792#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v294 : Index := Scalar.indexCast v8
  ![1792, v294.toNat]
def k0_off16 (d0 : Dev nD) : Fin 2 → Nat :=
  let c1792_i32_255 : BitVec 32 := 1792#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  ![1792, v8.toNat]
def k0_dev18 (d0 : Dev nD) : Nat :=
  let c0_i32_253 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_252 : BitVec 32 := 2#32
  let v296 : BitVec 32 := Scalar.muli v2 c2_i32_252
  let v297 : BitVec 32 := Scalar.addi c0_i32_253 v296
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_254 : BitVec 32 := 1#32
  let v298 : BitVec 32 := Scalar.muli v7 c1_i32_254
  let v299 : BitVec 32 := Scalar.addi v297 v298
  v299.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x2048 : Shape := ⟨3, ![2, 2048, 2048]⟩
abbrev S_ : Shape := ⟨0, ![]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S_, .f32⟩
  | .hbm, ⟨2, _⟩ => ⟨S2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Looped.lean ====
/-
The kernel's body as three passes over the eight row chunks.

The printed body is one long sequence. Here it is shown to be, by unfolding, the handshake followed by three passes over the
list of chunks: every chunk of the local block is sent along the first mesh axis; then, chunk by chunk, the copy that arrives is
awaited, added to the local chunk, stored in the local column half of the result and sent along the second axis; then the
outstanding copies are awaited. The proof then speaks of one chunk at a time.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MeshSum

open Cert.KernelIdeal Cert.KernelIdeal.Gen
open Idealize.ShloMosaic Idealize.ShloMosaic.TcCoe
open Idealize.SL Idealize.SL.Sem

variable {F : FTy → Type} [FloatOps F]

/-! ## Chunks and their windows -/

/-- The eight chunks of 256 rows, in the order the kernel takes them. -/
def chunks : List (Fin 8) := [0, 1, 2, 3, 4, 5, 6, 7]

theorem chunks_nodup : chunks.Nodup := by decide
theorem mem_chunks (k : Fin 8) : k ∈ chunks := by revert k; decide

theorem xRows_inb (k : Fin 8) : ∀ a, (![0, 256 * k.val, 0] : Fin 3 → ℕ) a + S1x256x1024.size a ≤ S1x2048x1024.size a := by
  revert k; decide
theorem rRows_inb (k : Fin 8) : ∀ a, (![256 * k.val, 0] : Fin 2 → ℕ) a + S256x1024.size a ≤ S2048x1024.size a := by
  revert k; decide
theorem sem_inb (k : Fin 8) : ∀ a, (![k.val] : Fin 1 → ℕ) a + S1.size a ≤ S8.size a := by
  revert k; decide

/-- Chunk `k`'s rows of the local block and of the landing buffer. -/
abbrev xRows (k : Fin 8) : Rect S1x2048x1024 := Rect.unit (s := S1x2048x1024) ![0, 256 * k.val, 0] S1x256x1024.size (xRows_inb k)
abbrev rRows (k : Fin 8) : Rect S2048x1024 := Rect.unit (s := S2048x1024) ![256 * k.val, 0] S256x1024.size (rRows_inb k)

/-- The staged local block, the staged result, and the landing buffer. -/
abbrev xM : Memref sig .tc .vmem S1x2048x1024 .f32 := Memref.whole cc0_stg0_0
abbrev oM : Memref sig .tc .vmem S2048x2048 .f32 := Memref.whole cc0_stg1_0
abbrev rM : Memref sig .tc .vmem S2048x1024 .f32 := Memref.whole cc0_scratch0

/-- The windows the copies go through: chunk `k` of the local block, chunk `k` of the landing buffer, a block of 256 rows and
    1024 columns of the result at offset `off`. -/
abbrev xWin (k : Fin 8) : Memref sig .tc .vmem S256x1024 .f32 :=
  (xM.slice (xRows k) (fun _ => rfl)).squeeze S256x1024 squeezes_S1x256x1024_S256x1024
abbrev rWin (k : Fin 8) : Memref sig .tc .vmem S256x1024 .f32 := rM.slice (rRows k) (fun _ => rfl)
abbrev oRect (off : Fin 2 → ℕ) (h : ∀ a, off a + S256x1024.size a ≤ S2048x2048.size a) : Rect S2048x2048 :=
  Rect.unit (s := S2048x2048) off S256x1024.size h
abbrev oWin (off : Fin 2 → ℕ) (h : ∀ a, off a + S256x1024.size a ≤ S2048x2048.size a) : Memref sig .tc .vmem S256x1024 .f32 :=
  oM.slice (oRect off h) (fun _ => rfl)

/-- Entry `k` of one of the kernel's four arrays of semaphores. -/
abbrev semAt (a : DmaSems sig S8) (k : Fin 8) : DmaSem sig :=
  ((a.slice (Rect.unit (s := S8) ![k.val] S1.size (sem_inb k))).squeeze S_ squeezes_S1_S_).sem

/-! ## The printed offsets and device numbers, chunk by chunk -/

/-- Where chunk `k`'s sum is stored, as printed, -/
def offStore (k : Fin 8) (d : Dev nD) : Fin 2 → ℕ :=
  match k with
  | 0 => k0_off1 d | 1 => k0_off3 d | 2 => k0_off5 d | 3 => k0_off7 d | 4 => k0_off9 d | 5 => k0_off11 d | 6 => k0_off13 d | 7 => k0_off15 d
/-- and where it is sent from and to. -/
def offSend (k : Fin 8) (d : Dev nD) : Fin 2 → ℕ :=
  match k with
  | 0 => k0_off2 d | 1 => k0_off4 d | 2 => k0_off6 d | 3 => k0_off8 d | 4 => k0_off10 d | 5 => k0_off12 d | 6 => k0_off14 d | 7 => k0_off16 d

/-- Both are row `256 k` of the device's own column half. -/
theorem offStore_eq (k : Fin 8) (d : Dev nD) : offStore k d = ![256 * k.val, 1024 * (d.val % 2)] :=
  match k with
  | 0 => k0_off1_eq d | 1 => k0_off3_eq d | 2 => k0_off5_eq d | 3 => k0_off7_eq d | 4 => k0_off9_eq d | 5 => k0_off11_eq d
  | 6 => k0_off13_eq d | 7 => k0_off15_eq d
theorem offSend_eq (k : Fin 8) (d : Dev nD) : offSend k d = ![256 * k.val, 1024 * (d.val % 2)] :=
  match k with
  | 0 => k0_off2_eq d | 1 => k0_off4_eq d | 2 => k0_off6_eq d | 3 => k0_off8_eq d | 4 => k0_off10_eq d | 5 => k0_off12_eq d
  | 6 => k0_off14_eq d | 7 => k0_off16_eq d

theorem cols_inb (k : Fin 8) (d : Dev nD) : ∀ a, (![256 * k.val, 1024 * (d.val % 2)] : Fin 2 → ℕ) a + S256x1024.size a ≤ S2048x2048.size a := by
  revert k d; decide
theorem offStore_inb (k : Fin 8) (d : Dev nD) : ∀ a, offStore k d a + S256x1024.size a ≤ S2048x2048.size a := by
  rw [offStore_eq]; exact cols_inb k d
theorem offSend_inb (k : Fin 8) (d : Dev nD) : ∀ a, offSend k d a + S256x1024.size a ≤ S2048x2048.size a := by
  rw [offSend_eq]; exact cols_inb k d

/-- The device chunk `k` of the local block is sent to, as printed, -/
def devX (k : Fin 8) (d : Dev nD) : Dev nD :=
  match k with
  | 0 => ⟨k0_dev3 d, k0_dev3_lt d⟩ | 1 => ⟨k0_dev4 d, k0_dev4_lt d⟩ | 2 => ⟨k0_dev5 d, k0_dev5_lt d⟩ | 3 => ⟨k0_dev6 d, k0_dev6_lt d⟩
  | 4 => ⟨k0_dev7 d, k0_dev7_lt d⟩ | 5 => ⟨k0_dev8 d, k0_dev8_lt d⟩ | 6 => ⟨k0_dev9 d, k0_dev9_lt d⟩ | 7 => ⟨k0_dev10 d, k0_dev10_lt d⟩
/-- and the device chunk `k` of the sum is sent to. -/
def devY (k : Fin 8) (d : Dev nD) : Dev nD :=
  match k with
  | 0 => ⟨k0_dev11 d, k0_dev11_lt d⟩ | 1 => ⟨k0_dev12 d, k0_dev12_lt d⟩ | 2 => ⟨k0_dev13 d, k0_dev13_lt d⟩ | 3 => ⟨k0_dev14 d, k0_dev14_lt d⟩
  | 4 => ⟨k0_dev15 d, k0_dev15_lt d⟩ | 5 => ⟨k0_dev16 d, k0_dev16_lt d⟩ | 6 => ⟨k0_dev17 d, k0_dev17_lt d⟩ | 7 => ⟨k0_dev18 d, k0_dev18_lt d⟩

/-! ## The three passes -/

/-- One action per chunk of the list, in order. -/
def pass (f : Fin 8 → Prog (TpuEff nD τ sig (Elt F) Λ₀ .tc) PUnit) : List (Fin 8) → Prog (TpuEff nD τ sig (Elt F) Λ₀ .tc) PUnit
  | [] => pure ⟨⟩
  | k :: ks => f k >>= fun _ => pass f ks

/-- Send chunk `k` of the local block to device `n`. -/
def sendXTo (k : Fin 8) (n : Dev nD) (s r : DmaSem sig) : Prog (TpuEff nD τ sig (Elt F) Λ₀ .tc) PUnit :=
  Prog.lift (.enqueueDma (xWin k) (.remote (Dev.tc n) (rWin k) (.dma s)) (.dma r)
    ((View.wordExact_bits rfl).reshape _ _) (View.wordExact_bits rfl) ⟨⟨rfl, Or.inl rfl⟩, trivial⟩)
/-- Send chunk `k` of the local block along the first axis. -/
def sendX (d : Dev nD) (k : Fin 8) : Prog (TpuEff nD τ sig (Elt F) Λ₀ .tc) PUnit :=
  sendXTo k (devX k d) (semAt cc0_scratch1 k) (semAt cc0_scratch2 k)

/-- The sum of a chunk of the local block and the chunk that arrived. -/
def chunkSum (v : Vec F S1x256x1024 .f32) (w : Vec F S256x1024 .f32) : FVec F S256x1024 .f32 :=
  addf (shapeCast S256x1024 v shapeCasts_S1x256x1024_S256x1024) w

/-- Await chunk `k` from the first axis, add, store the sum at `o₁`, send what lies at `o₂` to device `n`. -/
def addSendAt (k : Fin 8) (n : Dev nD) (o₁ : Fin 2 → ℕ) (h₁ : ∀ a, o₁ a + S256x1024.size a ≤ S2048x2048.size a)
    (o₂ : Fin 2 → ℕ) (h₂ : ∀ a, o₂ a + S256x1024.size a ≤ S2048x2048.size a) (rx sy ry : DmaSem sig) :
    Prog (TpuEff nD τ sig (Elt F) Λ₀ .tc) PUnit := do
  Prog.lift (.waitDma2 rx (xWin k) (rWin k) ((View.wordExact_bits rfl).reshape _ _) (View.wordExact_bits rfl))
  let v : Vec F S1x256x1024 .f32 ← Prog.lift (.load xM (xRows k).toLoadRect (View.loadsAt_vmem h_S1x256x1024))
  let w : Vec F S256x1024 .f32 ← Prog.lift (.load rM (rRows k).toLoadRect (View.loadsAt_vmem h_S256x1024))
  let _ : Vec F S256x1024 .f32 ← Prog.lift (.load oM (oRect o₁ h₁).toLoadRect (View.loadsAt_vmem h_S256x1024))
  Prog.lift (.store oM (oRect o₁ h₁) (chunkSum v w) Finset.univ (View.stores_vmem_bits_univ h_S256x1024 rfl) (.inl rfl))
  Prog.lift (.enqueueDma (oWin o₂ h₂) (.remote (Dev.tc n) (oWin o₂ h₂) (.dma sy)) (.dma ry)
    (View.wordExact_bits rfl) (View.wordExact_bits rfl) ⟨⟨rfl, Or.inl rfl⟩, trivial⟩)
/-- Await chunk `k` from the first axis, add, store, send the sum along the second axis. -/
def addSend (d : Dev nD) (k : Fin 8) : Prog (TpuEff nD τ sig (Elt F) Λ₀ .tc) PUnit :=
  addSendAt k (devY k d) (offStore k d) (offStore_inb k d) (offSend k d) (offSend_inb k d) (semAt cc0_scratch2 k) (semAt cc0_scratch3 k) (semAt cc0_scratch4 k)

/-- Await what is outstanding of chunk `k`: both sends and the sum from the second axis. -/
def finishAt (k : Fin 8) (o : Fin 2 → ℕ) (h : ∀ a, o a + S256x1024.size a ≤ S2048x2048.size a) (sx sy ry : DmaSem sig) :
    Prog (TpuEff nD τ sig (Elt F) Λ₀ .tc) PUnit := do
  Prog.lift (.waitDma2 sx (rWin k) (xWin k) (View.wordExact_bits rfl) ((View.wordExact_bits rfl).reshape _ _))
  Prog.lift (.waitDma2 sy (oWin o h) (oWin o h) (View.wordExact_bits rfl) (View.wordExact_bits rfl))
  Prog.lift (.waitDma2 ry (oWin o h) (oWin o h) (View.wordExact_bits rfl) (View.wordExact_bits rfl))
def finish (d : Dev nD) (k : Fin 8) : Prog (TpuEff nD τ sig (Elt F) Λ₀ .tc) PUnit :=
  finishAt k (offSend k d) (offSend_inb k d) (semAt cc0_scratch1 k) (semAt cc0_scratch3 k) (semAt cc0_scratch4 k)

/-- The runtime's barrier semaphore. -/
abbrev barS : Sem sig := (SemArray.scalar (sig.barrier 0 rfl) : Sems sig S_).sem

/-- The body, as passes over the chunks. -/
def looped : Prog (TpuEff nD τ sig (Elt F) Λ₀ .tc) PUnit := do
  let d : Dev nD ← Prog.lift .deviceId
  semSignalWord (⟨k0_dev1 d, k0_dev1_lt d⟩ : Dev nD) barS 1#32
  semSignalWord (⟨k0_dev2 d, k0_dev2_lt d⟩ : Dev nD) barS 1#32
  semWaitWord barS 2#32
  pass (sendX d) chunks
  pass (addSend d) chunks
  pass (finish d) chunks

set_option maxRecDepth 65536 in
set_option maxHeartbeats 4000000 in
/-- The printed body, on the buffers and semaphores it is launched with, is the passes: by unfolding. -/
theorem body_eq_looped :
    cc0_body (F := F) xM (Memref.isWhole_whole _) oM (Memref.isWhole_whole _) rM (Memref.isWhole_whole _) cc0_scratch1 cc0_scratch2 cc0_scratch3 cc0_scratch4
      = looped := by
  rw [cc0_body_eq_skeleton]
  rfl

end Cert.MeshSum

end
-- ==== Proof.Protocol.lean ====
/-
The protocol of the kernel: who hands what to whom, and when.

A device `c` of the 2 × 2 mesh has one neighbour along each axis, `px c` and `py c`. Its semaphores are the barrier, and four
arrays of eight: the send and receive ends of the copies along the first axis and of those along the second. Each is used for
one round. This module states what each signal or copy hands over, and the order in which the waits can be met.
-/
module

public import proofs.«01_k».proof.Proof.Looped
public import Idealize.ShloMosaic.Lib.ValueIdxCore

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

/-- The ghost state: the pipeline's own rounds, and this kernel's, with duties named by `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh -/

/-- The neighbour along the first axis, -/
def px (c : Dev nD) : Dev nD := ⟨(c.val + 2) % 4, Nat.mod_lt _ (by decide)⟩
/-- and the one along the second. -/
def py (c : Dev nD) : Dev nD := ⟨2 * (c.val / 2) + (1 - c.val % 2), by have : c.val < 4 := c.isLt; show _ < 4; omega⟩

theorem px_px (c : Dev nD) : px (px c) = c := by revert c; decide
theorem py_py (c : Dev nD) : py (py c) = c := by revert c; decide
theorem py_half (c : Dev nD) : (py c).val / 2 = c.val / 2 := by revert c; decide
theorem py_mod (c : Dev nD) : (py c).val % 2 = 1 - c.val % 2 := by revert c; decide

def pxE : Dev nD ≃ Dev nD := ⟨px, px, px_px, px_px⟩
def pyE : Dev nD ≃ Dev nD := ⟨py, py, py_py, py_py⟩

theorem px_arith (c : Dev nD) : ((c.val % 2) + 2) - 2 * (c.val / 2) = (px c).val := by revert c; decide
theorem py_arith (c : Dev nD) : (2 * (c.val / 2) + 1) - (c.val % 2) = (py c).val := by revert c; decide

theorem devX_eq (k : Fin 8) (c : Dev nD) : devX k c = px c :=
  Fin.ext <| match k with
  | 0 => (k0_dev3_eq c).trans (px_arith c) | 1 => (k0_dev4_eq c).trans (px_arith c) | 2 => (k0_dev5_eq c).trans (px_arith c)
  | 3 => (k0_dev6_eq c).trans (px_arith c) | 4 => (k0_dev7_eq c).trans (px_arith c) | 5 => (k0_dev8_eq c).trans (px_arith c)
  | 6 => (k0_dev9_eq c).trans (px_arith c) | 7 => (k0_dev10_eq c).trans (px_arith c)
theorem devY_eq (k : Fin 8) (c : Dev nD) : devY k c = py c :=
  Fin.ext <| match k with
  | 0 => (k0_dev11_eq c).trans (py_arith c) | 1 => (k0_dev12_eq c).trans (py_arith c) | 2 => (k0_dev13_eq c).trans (py_arith c)
  | 3 => (k0_dev14_eq c).trans (py_arith c) | 4 => (k0_dev15_eq c).trans (py_arith c) | 5 => (k0_dev16_eq c).trans (py_arith c)
  | 6 => (k0_dev17_eq c).trans (py_arith c) | 7 => (k0_dev18_eq c).trans (py_arith c)
theorem barX_eq (c : Dev nD) : (⟨k0_dev1 c, k0_dev1_lt c⟩ : Dev nD) = px c := Fin.ext ((k0_dev1_eq c).trans (px_arith c))
theorem barY_eq (c : Dev nD) : (⟨k0_dev2 c, k0_dev2_lt c⟩ : Dev nD) = py c := Fin.ext ((k0_dev2_eq c).trans (py_arith c))

/-! ## The semaphores -/

/-- Entry `k` of array `a`: 0 and 1 the send and receive ends along the first axis, 2 and 3 those along the second. -/
def dsem (a : Fin 4) (k : Fin 8) : DmaSem sig := ⟨2 + 8 * a.val + k.val, by show _ < 34; omega⟩

theorem sem1_eq (k : Fin 8) : semAt cc0_scratch1 k = dsem 0 k := by revert k; decide
theorem sem2_eq (k : Fin 8) : semAt cc0_scratch2 k = dsem 1 k := by revert k; decide
theorem sem3_eq (k : Fin 8) : semAt cc0_scratch3 k = dsem 2 k := by revert k; decide
theorem sem4_eq (k : Fin 8) : semAt cc0_scratch4 k = dsem 3 k := by revert k; decide

/-- A device's semaphores: the barrier, and the entries of the four arrays. -/
abbrev Cell : Type := Unit ⊕ (Fin 4 × Fin 8)
def csem : Cell → SemLoc sig
  | .inl _ => .reg barS
  | .inr ak => .dma (dsem ak.1 ak.2)

theorem csem_injective : Function.Injective csem := by decide

abbrev bar (c : Dev nD) : GSem nD τ sig := ((c : Thread nD τ), .reg barS)
abbrev dc (a : Fin 4) (c : Dev nD) (k : Fin 8) : GSem nD τ sig := ((c : Thread nD τ), .dma (dsem a k))
abbrev kcell (p : Dev nD × Cell) : GSem nD τ sig := ((p.1 : Thread nD τ), csem p.2)

/-- The credit of one chunk's copy. -/
abbrev N : ℕ := (rWin 0).view.dmaCredit
theorem N_pos : 0 < N := View.dmaCredit_pos _ (by decide)

/-! ## Windows and contents -/

/-- The result's window of chunk `k` in the column half of device `d`. -/
abbrev oC (k : Fin 8) (d : Dev nD) : Memref sig .tc .vmem S256x1024 .f32 := oWin ![256 * k.val, 1024 * (d.val % 2)] (cols_inb k d)

/-- All of device `d`'s column half of the result. -/
def colSet (d : Dev nD) : Finset (S2048x2048.Idx) := Finset.univ.biUnion fun k : Fin 8 => (oC k d).view.set

/-- The local blocks, one per device, as staged. -/
abbrev Blocks (F : FTy → Type) : Type := Dev nD → Vec F S1x2048x1024 .f32

section Contents
variable (X : Blocks F)

/-- What arrives along the first axis: the neighbour's block. -/
def landed (c : Dev nD) : Vec F S2048x1024 .f32 := fun j => X (px c) (ix3 (0 : Fin 1) (j 0) (j 1))

/-- The sum a device computes of its block and its neighbour's. -/
def sumAt (d : Dev nD) (r : Fin 2048) (q : Fin 1024) : F .f32 :=
  FloatOps.addf (X d (ix3 (0 : Fin 1) r q)) (X (px d) (ix3 (0 : Fin 1) r q))

/-- The device of `c`'s mesh row that computes the column half holding column `q`. -/
def owner (c : Dev nD) (q : Fin 2048) : Dev nD := ⟨2 * (c.val / 2) + q.val / 1024, by have : c.val < 4 := c.isLt; have := q.isLt; show _ < 4; omega⟩

/-- The result on device `c`: each column half from the device of its mesh row that holds it. -/
def outAt (c : Dev nD) : Vec F S2048x2048 .f32 := fun j =>
  sumAt X (owner c (j 1)) (j 0) ⟨(j 1).val % 1024, Nat.mod_lt _ (by decide)⟩

theorem owner_py (c : Dev nD) (q : Fin 2048) : owner (py c) q = owner c q :=
  Fin.ext (congrArg (fun n => 2 * n + q.val / 1024) (py_half c))
theorem outAt_py (c : Dev nD) : outAt X (py c) = outAt X c :=
  funext fun j => congrArg (fun d => sumAt X d (j 0) ⟨(j 1).val % 1024, Nat.mod_lt _ (by decide)⟩) (owner_py c (j 1))

end Contents

/-! ## Pieces of the buffers -/

/-- Chunk `k` of the staged block of `c`, at share `q`; -/
def xPart (X : Blocks F) (q : PosShare TreeShare) (c : Dev nD) (k : Fin 8) : sProp 𝕄 :=
  (xWin k).view.loc (c : Thread nD τ) ↦[(xWin k).view.set]{q} X c
/-- chunk `k` of the landing buffer of `c`, holding `f` there; -/
def rPart (c : Dev nD) (k : Fin 8) (f : Vec F S2048x1024 .f32) : sProp 𝕄 :=
  (rWin k).view.loc (c : Thread nD τ) ↦[(rWin k).view.set]{fullShare} f
/-- chunk `k` of the result on `c` in the column half of `d`, holding `f` there; -/
def oPart (c d : Dev nD) (k : Fin 8) (f : Vec F S2048x2048 .f32) : sProp 𝕄 :=
  (oC k d).view.loc (c : Thread nD τ) ↦[(oC k d).view.set]{fullShare} f
/-- the whole landing buffer of `c`; -/
def rAll (c : Dev nD) (f : Vec F S2048x1024 .f32) : sProp 𝕄 := ((c : Thread nD τ).loc cc0_scratch0) ↦{fullShare} f
/-- the column half of `d` of the result on `c`. -/
def oHalf (c d : Dev nD) (f : Vec F S2048x2048 .f32) : sProp 𝕄 := ((c : Thread nD τ).loc cc0_stg1_0) ↦[colSet d]{fullShare} f

section Storable
omit [FloatOps F]
instance xPart_storable (X : Blocks F) (q c k) : BI.Storable (upEmb : UEmb _ 𝕄) (xPart (F := F) X q c k) := by unfold xPart; infer_instance
instance rPart_storable (c k f) : BI.Storable (upEmb : UEmb _ 𝕄) (rPart (F := F) c k f) := by unfold rPart; infer_instance
instance oPart_storable (c d k f) : BI.Storable (upEmb : UEmb _ 𝕄) (oPart (F := F) c d k f) := by unfold oPart; infer_instance
instance rAll_storable (c f) : BI.Storable (upEmb : UEmb _ 𝕄) (rAll (F := F) c f) := by unfold rAll; infer_instance
instance oHalf_storable (c d f) : BI.Storable (upEmb : UEmb _ 𝕄) (oHalf (F := F) c d f) := by unfold oHalf; infer_instance
end Storable

/-! ## The schedule -/

section Sched
variable (X : Blocks F)

/-- A signal of `c`'s barrier hands `c` the buffer it will write at the signalling neighbour: the landing buffer of the one along
    the first axis (`false`), `c`'s column half of the result of the one along the second (`true`). -/
def barPay (c : Dev nD) (d : Bool) : sProp 𝕄 :=
  match d with
  | false => iprop(∃ f, rAll (px c) f)
  | true => iprop(∃ f, oHalf (py c) c f)

/-- A copy's ends hand the waiting device: the half share the send read of the block; the arrived chunk; the sum that was sent;
    the sum that arrived. -/
def dmaPay (a : Fin 4) (c : Dev nD) (k : Fin 8) : sProp 𝕄 :=
  match a with
  | 0 => xPart X fullShare.left c k
  | 1 => rPart c k (landed X c)
  | 2 => oPart c c k (outAt X c)
  | 3 => oPart c (py c) k (outAt X c)

instance barPay_storable (c : Dev nD) (d : Bool) : BI.Storable (upEmb : UEmb _ 𝕄) (barPay (F := F) c d) := by
  cases d <;> (unfold barPay; dsimp only; infer_instance)
instance dmaPay_storable (a : Fin 4) (c : Dev nD) (k : Fin 8) : BI.Storable (upEmb : UEmb _ 𝕄) (dmaPay X a c k) := by
  fin_cases a <;> (unfold dmaPay; dsimp only; infer_instance)

/-- The array and the entry of a copy semaphore. -/
def famOf (q : DmaSem sig) : Fin 4 := ⟨(q.val - 2) / 8 % 4, Nat.mod_lt _ (by decide)⟩
def entryOf (q : DmaSem sig) : Fin 8 := ⟨(q.val - 2) % 8, Nat.mod_lt _ (by decide)⟩
theorem famOf_dsem (a : Fin 4) (k : Fin 8) : famOf (dsem a k) = a := by revert a k; decide
theorem entryOf_dsem (a : Fin 4) (k : Fin 8) : entryOf (dsem a k) = k := by revert a k; decide

/-- One round: two signals of one unit at a barrier, one chunk's credit at a copy semaphore. -/
def rds : Rounds.Schedule (GSem nD τ sig) Bool 𝕄 where
  duties g r := if r = 0 then (match g.2 with | .reg _ => Finset.univ | .dma _ => {false}) else ∅
  unitless _ := False
  amount g _ _ := match g.2 with | .reg _ => 1 | .dma _ => N
  payload g _ d := match g.2 with
    | .reg _ => barPay g.1.1 d
    | .dma q => dmaPay X (famOf q) g.1.1 (entryOf q)
  amount_pos g _ _ _ := by
    rcases g.2 with q | q
    · exact Nat.one_pos
    · exact N_pos

instance rds_payload_storable (g : GSem nD τ sig) (r : ℕ) (d : Bool) : BI.Storable (upEmb : UEmb _ 𝕄) ((rds X).payload g r d) := by
  obtain ⟨t, q | q⟩ := g
  · show BI.Storable upEmb (barPay t.1 d); infer_instance
  · show BI.Storable upEmb (dmaPay X (famOf q) t.1 (entryOf q)); infer_instance

theorem duties_bar (c : Dev nD) : (rds X).duties (bar c) 0 = Finset.univ := rfl
theorem duties_dma (a : Fin 4) (c : Dev nD) (k : Fin 8) : (rds X).duties (dc a c k) 0 = {false} := rfl
theorem duties_later (g : GSem nD τ sig) : ∀ r, 1 ≤ r → (rds X).duties g r = ∅ :=
  fun r hr => by dsimp only [rds]; exact if_neg (by omega)

theorem payload_dma (a : Fin 4) (c : Dev nD) (k : Fin 8) (d : Bool) : (rds X).payload (dc a c k) 0 d = dmaPay X a c k := by
  show dmaPay X (famOf (dsem a k)) c (entryOf (dsem a k)) = _
  rw [famOf_dsem, entryOf_dsem]

theorem expect_bar (c : Dev nD) : (rds X).expect (bar c) 0 = 2 := by
  unfold Schedule.expect Schedule.amountOf
  rw [duties_bar]; rfl
theorem expect_dma (a : Fin 4) (c : Dev nD) (k : Fin 8) : (rds X).expect (dc a c k) 0 = N := by
  unfold Schedule.expect Schedule.amountOf
  rw [duties_dma, Finset.sum_singleton]; rfl

/-- All a barrier's round hands over, -/
theorem rest_bar (c : Dev nD) : bigSep ((rds X).duties (bar c) 0 \ ∅) (fun d => (rds X).payload (bar c) 0 d)
    = iprop((∃ f, rAll (F := F) (px c) f) ∗ ∃ f, oHalf (F := F) (py c) c f) := by
  rw [Finset.sdiff_empty, duties_bar, bigSep_univ_eq_bigSepL [false, true] (by decide) (by decide), bigSepL_cons_cons, bigSepL_singleton]
  rfl
/-- and all a copy semaphore's does. -/
theorem rest_dma (a : Fin 4) (c : Dev nD) (k : Fin 8) :
    bigSep ((rds X).duties (dc a c k) 0 \ ∅) (fun d => (rds X).payload (dc a c k) 0 d) = dmaPay X a c k := by
  rw [Finset.sdiff_empty, duties_dma, bigSep_singleton, payload_dma]

end Sched

/-! ## What is owed, and the order of the waits -/

/-- The device a copy semaphore's credit comes to, from the device that starts the copy. -/
def dst (a : Fin 4) : Dev nD ≃ Dev nD := match a with | 0 => Equiv.refl _ | 1 => pxE | 2 => Equiv.refl _ | 3 => pyE

/-- The credits of array `a` that device `c` owes for the chunks `ks`. -/
def OL (a : Fin 4) (c : Dev nD) : List (Fin 8) → CellTallies nD τ sig Unit
  | [] => 0
  | k :: ks => OL a c ks + tallyAt (dc a (dst a c) k) () N

/-- What device `c` owes at launch: the sums it will send, the chunks it will send, the two signals. -/
def O₂ (c : Dev nD) : CellTallies nD τ sig Unit := OL 3 c chunks + OL 1 c chunks
def O₁ (c : Dev nD) : CellTallies nD τ sig Unit := O₂ c + tallyAt (bar (py c)) () 1
def O₀ (c : Dev nD) : CellTallies nD τ sig Unit := O₁ c + tallyAt (bar (px c)) () 1

def L (g : GSem nD τ sig) : Finset Unit := if g.1.2 = .tc then {()} else ∅
/-- The order: what is waited for first is lowest. Staging and the send ends 0, the barrier 1, the receive ends along the first axis
    2 and along the second 3. -/
def lvS : SemLoc sig → ℕ
  | .reg _ => 1
  | .dma q => if 10 ≤ q.val ∧ q.val < 18 then 2 else if 26 ≤ q.val then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_rx (k : Fin 8) : lvS (.dma (dsem 1 k)) = 2 := by revert k; decide
theorem lv_ry (k : Fin 8) : lvS (.dma (dsem 3 k)) = 3 := by revert k; decide

/-- Everything owed is on a TensorCore's semaphore above level `b`. -/
def Above (b : ℕ) (O : CellTallies nD τ sig Unit) : Prop := ∀ g u, 0 < O g u → g.1.2 = .tc ∧ b < lvS g.2

theorem Above.zero (b : ℕ) : Above b 0 := fun g u h => absurd h (Nat.lt_irrefl 0)
theorem Above.add {b : ℕ} {O O' : CellTallies nD τ sig Unit} (h : Above b O) (h' : Above b O') : Above b (O + O') := fun g u hg => by
  rw [Pi.add_apply, Finsupp.add_apply] at hg
  rcases Nat.add_pos_iff_pos_or_pos.mp hg with hg | hg
  · exact h g u hg
  · exact h' g u hg
theorem Above.tally {b : ℕ} (c : Dev nD) (sm : SemLoc sig) (n : ℕ) (h : b < lvS sm) : Above b (tallyAt ((c : Thread nD τ), sm) () n) := fun g u hg => by
  rw [tallyAt_apply] at hg
  by_cases hc : g = ((c : Thread nD τ), sm) ∧ u = ()
  · rw [hc.1]; exact ⟨rfl, h⟩
  · rw [if_neg hc] at hg; exact absurd hg (Nat.lt_irrefl 0)
theorem Above.OL {b : ℕ} (a : Fin 4) (c : Dev nD) (h : ∀ k, b < lvS (.dma (dsem a k))) (ks : List (Fin 8)) : Above b (OL a c ks) := by
  induction ks with
  | nil => exact Above.zero b
  | cons k ks ih => exact ih.add (Above.tally _ _ _ (h k))

theorem above_O₂ (c : Dev nD) : Above 1 (O₂ c) :=
  (Above.OL 3 c (fun k => by rw [lv_ry]; decide) _).add (Above.OL 1 c (fun k => by rw [lv_rx]; decide) _)
theorem above_O₀ (c : Dev nD) : Above 0 (O₀ c) :=
  ((Above.add (Above.OL 3 c (fun k => by rw [lv_ry]; decide) _) (Above.OL 1 c (fun k => by rw [lv_rx]; decide) _)).add
    (Above.tally _ _ _ (by decide))).add (Above.tally _ _ _ (by decide))
theorem above_rx (c : Dev nD) (ks : List (Fin 8)) : Above 2 (Cert.MeshSum.OL 3 c ks) := Above.OL 3 c (fun k => by rw [lv_ry]; decide) _

omit [FloatOps F] in
/-- A device may wait at a level below all it owes. -/
theorem mayWait {b : ℕ} (c : Dev nD) (sm : SemLoc sig) (O : CellTallies nD τ sig Unit) (hs : lvS sm ≤ b) (hO : Above b O) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-! ## The records every device holds -/

/-- Every semaphore's invariant, under the names `K`, and that each has reached its one round. -/
def records (X : Blocks F) (K : Dev nD × Cell → ℕ) : sProp 𝕄 :=
  bigSep Finset.univ fun p => iprop(cellInv ER (rds X) (K p) (kcell p) ∗ reached ER (kcell p) 0)

instance records_persistent (X : Blocks F) (K : Dev nD × Cell → ℕ) : BI.Persistent (records X K) := by unfold records; infer_instance

theorem records_at (X : Blocks F) (K : Dev nD × Cell → ℕ) (p : Dev nD × Cell) :
    records X K ⊢ iprop(cellInv ER (rds X) (K p) (kcell p) ∗ reached ER (kcell p) 0) := bigSep_elim (Finset.mem_univ p)
theorem records_bar (X : Blocks F) (K : Dev nD × Cell → ℕ) (c : Dev nD) :
    records X K ⊢ iprop(cellInv ER (rds X) (K (c, .inl ())) (bar c) ∗ reached ER (bar c) 0) := records_at X K (c, .inl ())
theorem records_dma (X : Blocks F) (K : Dev nD × Cell → ℕ) (a : Fin 4) (c : Dev nD) (k : Fin 8) :
    records X K ⊢ iprop(cellInv ER (rds X) (K (c, .inr (a, k))) (dc a c k) ∗ reached ER (dc a c k) 0) := records_at X K (c, .inr (a, k))

end Cert.MeshSum

end
-- ==== Proof.Contents.lean ====
/-
What the copies and the store leave in the buffers, chunk by chunk, and how a buffer falls into its chunks.
-/
module

public import proofs.«01_k».proof.Proof.Protocol
public import Idealize.ShloMosaic.Lib.ValueLayout

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 eq_ix2 eq_ix3)

variable {F : FTy → Type} [FloatOps F]

local notation "𝕄" => MT nD τ sig Unit (Elt F) ℕ UU ℕ

/-! ## Where the windows' elements lie -/

/-- Row `r` of chunk `k`. -/
abbrev row (k : Fin 8) (r : Fin 256) : Fin 2048 := ⟨256 * k.val + r.val, by omega⟩
/-- Column `q` of device `d`'s column half. -/
abbrev col (d : Dev nD) (q : Fin 1024) : Fin 2048 := ⟨1024 * (d.val % 2) + q.val, by omega⟩

theorem xRows_emb (k : Fin 8) (u : Fin 1) (r : Fin 256) (q : Fin 1024) : (xRows k).emb (ix3 u r q) = ix3 (0 : Fin 1) (row k r) q :=
  funext fun a => Fin.ext <| match a with
    | ⟨0, _⟩ => by show 0 + 1 * u.val = 0; omega
    | ⟨1, _⟩ => by show 256 * k.val + 1 * r.val = 256 * k.val + r.val; omega
    | ⟨2, _⟩ => by show 0 + 1 * q.val = q.val; omega
theorem rRows_emb (k : Fin 8) (r : Fin 256) (q : Fin 1024) : (rRows k).emb (ix2 r q) = ix2 (row k r) q :=
  funext fun a => Fin.ext <| match a with
    | ⟨0, _⟩ => by show 256 * k.val + 1 * r.val = 256 * k.val + r.val; omega
    | ⟨1, _⟩ => by show 0 + 1 * q.val = q.val; omega
theorem oRect_emb (k : Fin 8) (d : Dev nD) (r : Fin 256) (q : Fin 1024) :
    (oRect ![256 * k.val, 1024 * (d.val % 2)] (cols_inb k d)).emb (ix2 r q) = ix2 (row k r) (col d q) :=
  funext fun a => Fin.ext <| match a with
    | ⟨0, _⟩ => by show 256 * k.val + 1 * r.val = 256 * k.val + r.val; omega
    | ⟨1, _⟩ => by show 1024 * (d.val % 2) + 1 * q.val = 1024 * (d.val % 2) + q.val; omega

theorem xWin_emb (k : Fin 8) (r : Fin 256) (q : Fin 1024) : (xWin k).view.emb (ix2 r q) = ix3 (0 : Fin 1) (row k r) q := by
  show (xRows k).emb (Shape.reshapeEquiv _ (ix2 r q)) = _
  rw [ValueIdx.reshapeEquiv_ix2_1ab]
  exact xRows_emb k _ r q
theorem rWin_emb (k : Fin 8) (r : Fin 256) (q : Fin 1024) : (rWin k).view.emb (ix2 r q) = ix2 (row k r) q := rRows_emb k r q
theorem oC_emb (k : Fin 8) (d : Dev nD) (r : Fin 256) (q : Fin 1024) : (oC k d).view.emb (ix2 r q) = ix2 (row k r) (col d q) := oRect_emb k d r q

/-- An element of a window is one of its rows and columns. -/
theorem mem_view {v : View sig .tc .vmem S256x1024 .f32} {i : v.ty.Idx} (h : i ∈ v.set) : ∃ r q, v.emb (ix2 r q) = i := by
  obtain ⟨j, -, hj⟩ := Finset.mem_map.mp h
  exact ⟨j 0, j 1, by rw [← hj]; exact congrArg v.emb (eq_ix2 j).symm⟩

section Values
variable (X : Blocks F)

/-- The sums the device `d` computes are what its column half of the result holds. -/
theorem outAt_col (c d : Dev nD) (h : d.val / 2 = c.val / 2) (r : Fin 2048) (q : Fin 1024) :
    outAt X c (ix2 r (col d q)) = sumAt X d r q := by
  have h1 : owner c (col d q) = d := Fin.ext (by
    show 2 * (c.val / 2) + (1024 * (d.val % 2) + q.val) / 1024 = d.val
    have := q.isLt; omega)
  have h2 : (⟨(col d q).val % 1024, Nat.mod_lt _ (by decide)⟩ : Fin 1024) = q := Fin.ext (by
    show (1024 * (d.val % 2) + q.val) % 1024 = q.val
    have := q.isLt; omega)
  show sumAt X (owner c (col d q)) r ⟨(col d q).val % 1024, _⟩ = _
  rw [h1, h2]

/-- A chunk sent along the first axis lands as the neighbour's `landed`. -/
theorem land_x (c : Dev nD) (k : Fin 8) (fd : Vec F S2048x1024 .f32) (i) (hi : i ∈ (rWin k).view.set) :
    (rWin k).view.write (Elt F) fd ((xWin k).view.read (Elt F) (X c)) Finset.univ i = landed X (px c) i := by
  obtain ⟨r, q, rfl⟩ := mem_view hi
  rw [View.write_emb_of_mem _ _ (Finset.mem_univ _)]
  show X c ((xWin k).view.emb (ix2 r q)) = landed X (px c) ((rWin k).view.emb (ix2 r q))
  rw [xWin_emb, rWin_emb]
  show _ = X (px (px c)) (ix3 (0 : Fin 1) (row k r) q)
  rw [px_px]

/-- A chunk of sums sent along the second axis lands as what the result holds there. -/
theorem land_y (c : Dev nD) (k : Fin 8) (fd : Vec F S2048x2048 .f32) (i) (hi : i ∈ (oC k c).view.set) :
    (oC k c).view.write (Elt F) fd ((oC k c).view.read (Elt F) (outAt X c)) Finset.univ i = outAt X (py c) i := by
  obtain ⟨r, q, rfl⟩ := mem_view hi
  rw [View.write_emb_of_mem _ _ (Finset.mem_univ _), outAt_py]
  rfl

/-- The sum stored for chunk `k` is what the result holds there. -/
theorem store_sum (c : Dev nD) (k : Fin 8) (fd : Vec F S2048x2048 .f32) (i) (hi : i ∈ (oC k c).view.set) :
    (oM.access (oRect ![256 * k.val, 1024 * (c.val % 2)] (cols_inb k c)) : View sig .tc _ _ _).write (Elt F) fd
      (chunkSum (xM.view.readAt (Elt F) (xRows k).toLoadRect (X c)) (rM.view.readAt (Elt F) (rRows k).toLoadRect (landed X c))) Finset.univ i
      = outAt X c i := by
  obtain ⟨r, q, rfl⟩ := mem_view hi
  refine ((oM.access (oRect ![256 * k.val, 1024 * (c.val % 2)] (cols_inb k c)) : View sig .tc _ _ _).write_emb_of_mem (Val := Elt F) fd _
    (x := ix2 r q) (Finset.mem_univ _)).trans ?_
  rw [oC_emb, outAt_col X c c rfl]
  show FloatOps.addf (shapeCast S256x1024 _ shapeCasts_S1x256x1024_S256x1024 (ix2 r q)) (landed X c ((rRows k).emb (ix2 r q))) = _
  rw [ValueIdx.shapeCast_1ab_ab_apply, rRows_emb]
  show FloatOps.addf (X c ((xRows k).emb (ix3 (0 : Fin 1) r q))) _ = _
  rw [xRows_emb]
  rfl

end Values

/-! ## A buffer is its chunks -/

theorem xWin_set (k : Fin 8) : (xWin k).view.set = (xRows k).set := (View.set_reshape _ _).trans (View.set_slice_whole _ _)
theorem rWin_set (k : Fin 8) : (rWin k).view.set = (rRows k).set := View.set_slice_whole _ _
theorem oC_set (k : Fin 8) (d : Dev nD) : (oC k d).view.set = (oRect ![256 * k.val, 1024 * (d.val % 2)] (cols_inb k d)).set :=
  View.set_slice_whole _ _

/-- Different chunks lie on different rows. -/
theorem rows_apart {j k : Fin 8} (h : j ≠ k) : 256 * j.val + 256 ≤ 256 * k.val ∨ 256 * k.val + 256 ≤ 256 * j.val := by
  have := Fin.val_ne_of_ne h; omega

theorem xWin_disjoint (j k : Fin 8) (h : j ≠ k) : Disjoint (xWin j).view.set (xWin k).view.set := by
  rw [xWin_set, xWin_set]; exact Rect.unit_disjoint 1 (rows_apart h)
theorem rWin_disjoint (j k : Fin 8) (h : j ≠ k) : Disjoint (rWin j).view.set (rWin k).view.set := by
  rw [rWin_set, rWin_set]; exact Rect.unit_disjoint 0 (rows_apart h)
theorem oC_disjoint (d : Dev nD) (j k : Fin 8) (h : j ≠ k) : Disjoint (oC j d).view.set (oC k d).view.set := by
  rw [oC_set, oC_set]; exact Rect.unit_disjoint 0 (rows_apart h)

theorem chunk_of (r : Fin 2048) : ∃ k r', row k r' = r :=
  ⟨⟨r.val / 256, by omega⟩, ⟨r.val % 256, Nat.mod_lt _ (by decide)⟩, Fin.ext (Nat.div_add_mod _ _)⟩

theorem xWin_cover : (Finset.univ.biUnion fun k : Fin 8 => (xWin k).view.set) = (Finset.univ : Finset S1x2048x1024.Idx) :=
  Finset.eq_univ_iff_forall.mpr fun i => by
    obtain ⟨u, r, q, rfl⟩ : ∃ (u : Fin 1) (r : Fin 2048) (q : Fin 1024), i = ix3 u r q := ⟨i 0, i 1, i 2, eq_ix3 i⟩
    obtain ⟨k, r, rfl⟩ := chunk_of r
    refine Finset.mem_biUnion.mpr ⟨k, Finset.mem_univ _, ?_⟩
    rw [Subsingleton.elim u 0, ← xWin_emb k r q]; exact View.emb_mem_set _ _
theorem rWin_cover : (Finset.univ.biUnion fun k : Fin 8 => (rWin k).view.set) = (Finset.univ : Finset S2048x1024.Idx) :=
  Finset.eq_univ_iff_forall.mpr fun i => by
    obtain ⟨r, q, rfl⟩ : ∃ (r : Fin 2048) (q : Fin 1024), i = ix2 r q := ⟨i 0, i 1, eq_ix2 i⟩
    obtain ⟨k, r, rfl⟩ := chunk_of r
    refine Finset.mem_biUnion.mpr ⟨k, Finset.mem_univ _, ?_⟩
    rw [← rWin_emb k r q]; exact View.emb_mem_set _ _

/-- A column half is its elements' columns, -/
theorem mem_colSet (d : Dev nD) (i : S2048x2048.Idx) : i ∈ colSet d ↔ (i 1).val / 1024 = d.val % 2 := by
  constructor
  · intro h
    obtain ⟨k, -, hk⟩ := Finset.mem_biUnion.mp h
    obtain ⟨r, q, rfl⟩ := mem_view hk
    rw [oC_emb]
    show (1024 * (d.val % 2) + q.val) / 1024 = _
    omega
  · intro h
    obtain ⟨k, r, hr⟩ := chunk_of (i 0)
    refine Finset.mem_biUnion.mpr ⟨k, Finset.mem_univ _, ?_⟩
    have hq : col d ⟨(i 1).val % 1024, Nat.mod_lt _ (by decide)⟩ = i 1 :=
      Fin.ext (by show 1024 * (d.val % 2) + (i 1).val % 1024 = (i 1).val; omega)
    have hi : i = (oC k d).view.emb (ix2 r ⟨(i 1).val % 1024, Nat.mod_lt _ (by decide)⟩) := by
      rw [oC_emb, hr, hq]; exact eq_ix2 (n0 := 2048) (n1 := 2048) i
    rw [hi]; exact View.emb_mem_set _ _
/-- so a device's half and its neighbour's are apart, and together the result. -/
theorem halves_disjoint (c : Dev nD) : Disjoint (colSet c) (colSet (py c)) :=
  Finset.disjoint_left.mpr fun i h h' => by
    rw [mem_colSet] at h h'
    rw [py_mod] at h'
    omega
theorem halves_cover (c : Dev nD) : colSet c ∪ colSet (py c) = (Finset.univ : Finset S2048x2048.Idx) :=
  Finset.eq_univ_iff_forall.mpr fun i => by
    rw [Finset.mem_union, mem_colSet, mem_colSet, py_mod]
    have h : (i 1).val < 2048 := (i 1).isLt
    omega

section Pieces
omit [FloatOps F]

/-- The staged block is its chunks, at any share; -/
theorem x_chunks (X : Blocks F) (q : PosShare TreeShare) (c : Dev nD) :
    (((c : Thread nD τ).loc cc0_stg0_0) ↦{q} X c : sProp 𝕄) = bigSep Finset.univ (xPart X q c) := by
  refine Eq.trans ?_ (pointsTo_biUnion (ℓ := (c : Thread nD τ).loc cc0_stg0_0) Finset.univ (fun k : Fin 8 => (xWin k).view.set)
    (fun j _ k _ h => xWin_disjoint j k h))
  rw [xWin_cover]
/-- the landing buffer is its chunks; -/
theorem r_chunks (c : Dev nD) (f : Vec F S2048x1024 .f32) : (rAll c f : sProp 𝕄) = bigSep Finset.univ (fun k => rPart c k f) := by
  refine Eq.trans ?_ (pointsTo_biUnion (ℓ := (c : Thread nD τ).loc cc0_scratch0) Finset.univ (fun k : Fin 8 => (rWin k).view.set)
    (fun j _ k _ h => rWin_disjoint j k h))
  rw [rWin_cover]; rfl
/-- a column half of the result is its chunks, -/
theorem half_chunks (c d : Dev nD) (f : Vec F S2048x2048 .f32) : (oHalf c d f : sProp 𝕄) = bigSep Finset.univ (fun k => oPart c d k f) := by
  exact pointsTo_biUnion (ℓ := (c : Thread nD τ).loc cc0_stg1_0) Finset.univ (fun k : Fin 8 => (oC k d).view.set)
    (fun j _ k _ h => oC_disjoint d j k h)
/-- and the result is its two column halves. -/
theorem o_halves (c : Dev nD) (f : Vec F S2048x2048 .f32) :
    (((c : Thread nD τ).loc cc0_stg1_0) ↦{fullShare} f : sProp 𝕄) ⊣⊢ iprop(oHalf c c f ∗ oHalf c (py c) f) := by
  have h := pointsTo_union (ℓ := (c : Thread nD τ).loc cc0_stg1_0) (q := fullShare) (f := f) (halves_disjoint c)
    (Ix := Unit) (Name := ℕ) (U := UU) (Lvl := ℕ)
  rw [halves_cover] at h
  exact h
/-- The staged block is held in two half shares. -/
theorem x_shares (X : Blocks F) (c : Dev nD) : (((c : Thread nD τ).loc cc0_stg0_0) ↦{fullShare} X c : sProp 𝕄)
    ⊣⊢ iprop((((c : Thread nD τ).loc cc0_stg0_0) ↦{fullShare.left} X c) ∗ (((c : Thread nD τ).loc cc0_stg0_0) ↦{fullShare.right} X c)) :=
  pointsTo_share (PosShare.mem_left_op_right fullShare)

end Pieces

end Cert.MeshSum

end
-- ==== Proof.Steps.lean ====
/-
One chunk's part of each of the three passes, and a pass from its chunks.
-/
module

public import proofs.«01_k».proof.Proof.Contents
public import Idealize.ShloMosaic.Lib.Pipeline.BigSepL

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` to `Q`. -/
abbrev Run (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## A pass from its chunks -/

/-- If each chunk's action takes what it needs of the chunk to what it leaves, and what is held throughout from the chunks left before
    it to those left after it, then so does the pass. -/
theorem run_pass (c : Dev nD) (f : Fin 8 → Prog (TpuEff nD τ sig (Elt F) Λ₀ .tc) PUnit) (R : List (Fin 8) → sProp 𝕄) (A B : Fin 8 → sProp 𝕄)
    (h : ∀ k ks, iprop(R (k :: ks) ∗ A k) ⊢ Run c (f k) (fun _ => iprop(R ks ∗ B k))) :
    ∀ ks, iprop(R ks ∗ bigSepL ks A) ⊢ Run c (pass f ks) (fun _ => iprop(R [] ∗ bigSepL ks B))
  | [] => by
    show _ ⊢ wp frame _ _ (Prog.ret _) _
    rw [wp_ret]
    exact fupd_intro
  | k :: ks => by
    show _ ⊢ wp frame _ _ (f k >>= fun _ => pass f ks) _
    rw [wp_bind, bigSepL_cons', bigSepL_cons']
    iintro ⟨HR, HA, Hs⟩
    ihave Hf := (h k ks) $$ [HR HA]
    · isplitl [HR] <;> iassumption
    iapply wp_wand_r
    isplitl [Hf]; · iexact Hf
    iintro %_ ⟨HR, HB⟩
    ihave Hp := (run_pass c f R A B h ks) $$ [HR Hs]
    · isplitl [HR] <;> iassumption
    iapply wp_wand_r
    isplitl [Hp]; · iexact Hp
    iintro %_ ⟨HR, HBs⟩
    isplitl [HR]; · iexact HR
    isplitl [HB] <;> iassumption

theorem run_pass_all (c : Dev nD) (f : Fin 8 → Prog (TpuEff nD τ sig (Elt F) Λ₀ .tc) PUnit) (R : List (Fin 8) → sProp 𝕄) (A B : Fin 8 → sProp 𝕄)
    (h : ∀ k ks, iprop(R (k :: ks) ∗ A k) ⊢ Run c (f k) (fun _ => iprop(R ks ∗ B k))) :
    iprop(R chunks ∗ bigSep Finset.univ A) ⊢ Run c (pass f chunks) (fun _ => iprop(R [] ∗ bigSep Finset.univ B)) := by
  rw [bigSep_univ_eq_bigSepL chunks (by decide) chunks_nodup, bigSep_univ_eq_bigSepL chunks (by decide) chunks_nodup]
  exact run_pass c f R A B h chunks

/-! ## The actions, with devices, offsets and semaphores by name -/

theorem sendX_eq (c : Dev nD) (k : Fin 8) : sendX (F := F) c k = sendXTo k (px c) (dsem 0 k) (dsem 1 k) := by
  unfold sendX
  rw [devX_eq, sem1_eq, sem2_eq]

theorem addSendAt_congr (k : Fin 8) (n : Dev nD) {o₁ o₂ o : Fin 2 → ℕ} (e₁ : o₁ = o) (e₂ : o₂ = o)
    (h₁ : ∀ a, o₁ a + S256x1024.size a ≤ S2048x2048.size a) (h₂ : ∀ a, o₂ a + S256x1024.size a ≤ S2048x2048.size a)
    (h : ∀ a, o a + S256x1024.size a ≤ S2048x2048.size a) (rx sy ry : DmaSem sig) :
    addSendAt (F := F) k n o₁ h₁ o₂ h₂ rx sy ry = addSendAt k n o h o h rx sy ry := by
  subst e₁; subst e₂; rfl
theorem addSend_eq (c : Dev nD) (k : Fin 8) : addSend (F := F) c k =
    addSendAt k (py c) ![256 * k.val, 1024 * (c.val % 2)] (cols_inb k c) ![256 * k.val, 1024 * (c.val % 2)] (cols_inb k c)
      (dsem 1 k) (dsem 2 k) (dsem 3 k) := by
  unfold addSend
  rw [sem2_eq, sem3_eq, sem4_eq, devY_eq]
  exact addSendAt_congr k _ (offStore_eq k c) (offSend_eq k c) _ _ _ _ _ _

theorem finishAt_congr (k : Fin 8) {o₁ o : Fin 2 → ℕ} (e : o₁ = o)
    (h₁ : ∀ a, o₁ a + S256x1024.size a ≤ S2048x2048.size a) (h : ∀ a, o a + S256x1024.size a ≤ S2048x2048.size a) (sx sy ry : DmaSem sig) :
    finishAt (F := F) k o₁ h₁ sx sy ry = finishAt k o h sx sy ry := by
  subst e; rfl
theorem finish_eq (c : Dev nD) (k : Fin 8) : finish (F := F) c k =
    finishAt k ![256 * k.val, 1024 * (c.val % 2)] (cols_inb k c) (dsem 0 k) (dsem 2 k) (dsem 3 k) := by
  unfold finish
  rw [sem1_eq, sem3_eq, sem4_eq]
  exact finishAt_congr k (offSend_eq k c) _ _ _ _ _

/-! ## One chunk of each pass -/

section Steps
variable (X : Blocks F) (K : Dev nD × Cell → ℕ) (c : Dev nD)

/-- What is held through the passes: the records, the levels, and what is still owed. -/
def through (O : CellTallies nD τ sig Unit) : sProp 𝕄 :=
  iprop(records X K ∗ levAts L lv ∗ ∃ W, owes (c : Thread nD τ) O W)

/-- What sending chunk `k` along the first axis needs, -/
def needX (k : Fin 8) : sProp 𝕄 :=
  iprop(xPart X fullShare.left c k ∗ (∃ f, rPart (px c) k f) ∗ dutyTok ER (dc 0 c k) 0 false ∗ dutyTok ER (dc 1 (px c) k) 0 false)

theorem run_sendX (k : Fin 8) (O : CellTallies nD τ sig Unit) :
    iprop(through X K c (O + tallyAt (dc 1 (px c) k) () N) ∗ needX X c k)
      ⊢ Run c (sendX c k) (fun _ => iprop(through X K c O ∗ cred (tallyAt (dc 0 c k) () N))) := by
  rw [sendX_eq]; unfold sendXTo
  simp only [Prog.lift]
  unfold through needX xPart rPart
  iintro ⟨⟨#HR, #Hlev, ⟨%W, HO⟩⟩, Hx, ⟨%f, Hr⟩, Ht₁, Ht₂⟩
  ihave ⟨#HI₁, #Hm₁⟩ := (records_dma X K 0 c k) $$ HR
  ihave ⟨#HI₂, #Hm₂⟩ := (records_dma X K 1 (px c) k) $$ HR
  iapply (Rounds.wp_send_pointsTo 𝒱₀ ER (rds X) (c : Thread nD τ) none (κ₁ := K (c, .inr (0, k))) (κ₂ := K (px c, .inr (1, k)))
      (r₁ := 0) (r₂ := 0) (d₁ := false) (d₂ := false) (fd := f) (Finset.mem_singleton_self _) (Finset.mem_singleton_self _)
      () () N rfl rfl rfl O rfl (W := W)
      (by rw [payload_dma]; exact BI.Entails.refl _)
      (by rw [payload_dma]; exact Entails.of_eq (pointsTo_congr (land_x X c k f)))) $$ [Hx Hr HO Ht₁ Ht₂]
  · isplitr; · iexact HI₁
    isplitr; · iexact HI₂
    isplitl [Hx]; · iexact Hx
    isplitl [Hr]; · iexact Hr
    isplitl [HO]; · iexact HO
    isplitl [Ht₁]; · iexact Ht₁
    isplitr; · iexact Hm₁
    isplitl [Ht₂]; · iexact Ht₂
    iexact Hm₂
  iintro ⟨Hc, HO⟩
  rw [wp_ret]; imodintro
  isplitr [Hc]
  · isplitr; · iexact HR
    isplitr; · iexact Hlev
    iexists W; iexact HO
  iexact Hc

/-- One wait for a chunk's copy: at its end, the copy's payload and the semaphore's round closed. -/
theorem run_wait {α : Type} {Q : α → sProp 𝕄} (a : Fin 4) (k : Fin 8) (O : CellTallies nD τ sig Unit) (b : ℕ)
    (hs : lvS (.dma (dsem a k)) ≤ b) (hO : Above b O) {sp sp' : Space} {s s' : Shape} {e e' : EltTy}
    (src : Memref sig .tc sp s e) (dst : Memref sig .tc sp' s' e') {h₁ : src.view.WordExact} {h₂ : dst.view.WordExact}
    (hn : dst.view.dmaCredit = N)
    {g : PUnit → Prog (TpuEff nD τ sig (Elt F) Λ₀ .tc) α} :
    iprop(through X K c O ∗ cred (tallyAt (dc a c k) () N) ∗ atPos ER (dc a c k) 0 ∅ 0)
      ⊢ iprop(((through X K c O ∗ atPos ER (dc a c k) 1 ∅ 0 ∗ dmaPay X a c k)
            -∗ wp frame (wpE (defs₀ (F := F)) 𝒱₀ (c : Thread nD τ) none) Set.univ (g ⟨⟩) Q)
          -∗ wp frame (wpE (defs₀ (F := F)) 𝒱₀ (c : Thread nD τ) none) Set.univ (.op (.waitDma2 (dsem a k) src dst h₁ h₂) g) Q) := by
  unfold through
  iintro ⟨⟨#HR, #Hlev, ⟨%W, HO⟩⟩, Hc, Hat⟩ Hk
  ihave ⟨#HI, -⟩ := (records_dma X K a c k) $$ HR
  iapply (Rounds.wp_wait_rest_token 𝒱₀ ER (rds X) (c : Thread nD τ) none (κ := K (c, .inr (a, k))) (wpE_waitDma2_eq 𝒱₀ (c : Thread nD τ) none Set.univ) (Set.mem_univ _) ()
      (O := O) (W := W) (R := 0) (m := 0) (T := ∅) (by rw [Nat.zero_add, hn]; exact (expect_dma X a c k).symm)) $$ [Hc HO Hat]
  · isplitr; · iexact HI
    isplitl [Hc]; · rw [hn]; iexact Hc
    isplitl [HO]; · iexact HO
    isplitr; · iapply (mayWait c (.dma (dsem a k)) O hs hO); iexact Hlev
    iexact Hat
  iintro ⟨HO, Hat, -, Hp⟩
  ihave Hp := (Entails.of_eq (rest_dma X a c k)) $$ Hp
  iapply Hk
  isplitl [HO]
  · isplitr; · iexact HR
    isplitr; · iexact Hlev
    iexists _; iexact HO
  isplitl [Hat] <;> iassumption

/-- what adding and sending it on needs beside the block, -/
def needY (k : Fin 8) : sProp 𝕄 :=
  iprop(cred (tallyAt (dc 1 c k) () N) ∗ atPos ER (dc 1 c k) 0 ∅ 0 ∗ (∃ f, oPart c c k f) ∗ (∃ f, oPart (py c) c k f)
    ∗ dutyTok ER (dc 2 c k) 0 false ∗ dutyTok ER (dc 3 (py c) k) 0 false)
/-- and what it leaves. -/
def doneY (k : Fin 8) : sProp 𝕄 :=
  iprop(atPos ER (dc 1 c k) 1 ∅ 0 ∗ rPart c k (landed X c) ∗ cred (tallyAt (dc 2 c k) () N))

/-- The block, at the share the sends do not read. -/
def xRest : sProp 𝕄 := ((c : Thread nD τ).loc cc0_stg0_0) ↦{fullShare.right} X c

theorem run_addSend (k : Fin 8) (ks : List (Fin 8)) :
    iprop((through X K c (OL 3 c (k :: ks)) ∗ xRest X c) ∗ needY c k)
      ⊢ Run c (addSend c k) (fun _ => iprop((through X K c (OL 3 c ks) ∗ xRest X c) ∗ doneY X c k)) := by
  rw [addSend_eq]; unfold addSendAt
  simp only [Prog.lift, Prog.bind_op, Prog.bind_ret]
  unfold needY
  iintro ⟨⟨HT, Hx⟩, Hc, Hat, ⟨%f, Ho⟩, ⟨%f', Ho'⟩, Ht₁, Ht₂⟩
  iapply (run_wait X K c 1 k (OL 3 c (k :: ks)) 2 (by rw [lv_rx]) (above_rx c _) (xWin k) (rWin k) rfl) $$ [HT Hc Hat]
  · isplitl [HT]; · iexact HT
    isplitl [Hc] <;> iassumption
  iintro ⟨HT, Hat, Hr⟩
  unfold dmaPay xRest rPart oPart
  dsimp only
  iapply (wp_load 𝒱₀ (c : Thread nD τ) none Set.univ (m := xM) (Finset.subset_univ _)) $$ Hx; iintro Hx
  iapply (wp_load_rect 𝒱₀ (c : Thread nD τ) none Set.univ (m := rM) (r := rRows k) (S := (rWin k).view.set) (Finset.Subset.refl _)) $$ Hr; iintro Hr
  iapply (wp_load_rect 𝒱₀ (c : Thread nD τ) none Set.univ (m := oM) (r := oRect ![256 * k.val, 1024 * (c.val % 2)] (cols_inb k c))
    (S := (oC k c).view.set) (Finset.Subset.refl _)) $$ Ho; iintro Ho
  iapply (wp_store 𝒱₀ (c : Thread nD τ) none Set.univ (m := oM) (r := oRect ![256 * k.val, 1024 * (c.val % 2)] (cols_inb k c))
    (Mk := Finset.univ) (S := (oC k c).view.set) (Finset.Subset.refl _)) $$ Ho; iintro Ho
  ihave Ho := (Entails.of_eq (pointsTo_congr (store_sum X c k f))) $$ Ho
  unfold through
  icases HT with ⟨#HR, #Hlev, ⟨%W, HO⟩⟩
  ihave ⟨#HI₁, #Hm₁⟩ := (records_dma X K 2 c k) $$ HR
  ihave ⟨#HI₂, #Hm₂⟩ := (records_dma X K 3 (py c) k) $$ HR
  iapply (Rounds.wp_send_pointsTo 𝒱₀ ER (rds X) (c : Thread nD τ) none (κ₁ := K (c, .inr (2, k))) (κ₂ := K (py c, .inr (3, k)))
      (r₁ := 0) (r₂ := 0) (d₁ := false) (d₂ := false) (fs := outAt X c) (fd := f') (Finset.mem_singleton_self _) (Finset.mem_singleton_self _)
      () () N rfl rfl rfl (OL 3 c ks) rfl (W := W)
      (by rw [payload_dma]; exact BI.Entails.refl _)
      (by rw [payload_dma]; unfold dmaPay oPart; dsimp only; rw [py_py]; exact Entails.of_eq (pointsTo_congr (land_y X c k f')))) $$ [Ho Ho' HO Ht₁ Ht₂]
  · isplitr; · iexact HI₁
    isplitr; · iexact HI₂
    isplitl [Ho]; · iexact Ho
    isplitl [Ho']; · iexact Ho'
    isplitl [HO]; · iexact HO
    isplitl [Ht₁]; · iexact Ht₁
    isplitr; · iexact Hm₁
    isplitl [Ht₂]; · iexact Ht₂
    iexact Hm₂
  iintro ⟨Hc, HO⟩
  rw [wp_ret]; imodintro
  unfold doneY rPart
  isplitl [HO Hx]
  · isplitl [HO]
    · isplitr; · iexact HR
      isplitr; · iexact Hlev
      iexists W; iexact HO
    iexact Hx
  isplitl [Hat]; · iexact Hat
  isplitl [Hr] <;> iassumption

/-- What the last pass needs of chunk `k`, -/
def needZ (k : Fin 8) : sProp 𝕄 :=
  iprop((cred (tallyAt (dc 0 c k) () N) ∗ atPos ER (dc 0 c k) 0 ∅ 0) ∗ (cred (tallyAt (dc 2 c k) () N) ∗ atPos ER (dc 2 c k) 0 ∅ 0)
    ∗ (cred (tallyAt (dc 3 c k) () N) ∗ atPos ER (dc 3 c k) 0 ∅ 0))
/-- and what it leaves. -/
def doneZ (k : Fin 8) : sProp 𝕄 :=
  iprop((atPos ER (dc 0 c k) 1 ∅ 0 ∗ dmaPay X 0 c k) ∗ (atPos ER (dc 2 c k) 1 ∅ 0 ∗ dmaPay X 2 c k) ∗ (atPos ER (dc 3 c k) 1 ∅ 0 ∗ dmaPay X 3 c k))

theorem run_finish (k : Fin 8) :
    iprop(through X K c 0 ∗ needZ c k) ⊢ Run c (finish c k) (fun _ => iprop(through X K c 0 ∗ doneZ X c k)) := by
  rw [finish_eq]; unfold finishAt
  simp only [Prog.lift, Prog.bind_op, Prog.bind_ret]
  unfold needZ
  iintro ⟨HT, ⟨Hc₁, Ha₁⟩, ⟨Hc₂, Ha₂⟩, Hc₃, Ha₃⟩
  iapply (run_wait X K c 0 k 0 _ le_rfl (Above.zero _) (rWin k) (xWin k) rfl) $$ [HT Hc₁ Ha₁]
  · isplitl [HT]; · iexact HT
    isplitl [Hc₁] <;> iassumption
  iintro ⟨HT, Ha₁, Hp₁⟩
  iapply (run_wait X K c 2 k 0 _ le_rfl (Above.zero _) (oC k c) (oC k c) rfl) $$ [HT Hc₂ Ha₂]
  · isplitl [HT]; · iexact HT
    isplitl [Hc₂] <;> iassumption
  iintro ⟨HT, Ha₂, Hp₂⟩
  iapply (run_wait X K c 3 k 0 _ le_rfl (Above.zero _) (oC k c) (oC k c) rfl) $$ [HT Hc₃ Ha₃]
  · isplitl [HT]; · iexact HT
    isplitl [Hc₃] <;> iassumption
  iintro ⟨HT, Ha₃, Hp₃⟩
  rw [wp_ret]; imodintro
  unfold doneZ
  isplitl [HT]; · iexact HT
  isplitl [Ha₁ Hp₁]
  · isplitl [Ha₁]; · iexact Ha₁
    iexact Hp₁
  isplitl [Ha₂ Hp₂]
  · isplitl [Ha₂]; · iexact Ha₂
    iexact Hp₂
  isplitl [Ha₃]; · iexact Ha₃
  iexact Hp₃

end Steps

end Cert.MeshSum

end
-- ==== Proof.Body.lean ====
/-
The whole body on one device: the handshake, the three passes, and the semaphores closed at the end.
-/
module

public import proofs.«01_k».proof.Proof.Steps

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Pieces
variable (c : Dev nD)

/-- A device's positions: round 0 of each of its semaphores, -/
def positions : sProp 𝕄 :=
  iprop(atPos ER (bar c) 0 ∅ 0 ∗ bigSep Finset.univ fun a : Fin 4 => bigSep Finset.univ fun k : Fin 8 => atPos ER (dc a c k) 0 ∅ 0)
/-- the duties it pays, -/
def duties : sProp 𝕄 :=
  iprop(dutyTok ER (bar (px c)) 0 false ∗ dutyTok ER (bar (py c)) 0 true
    ∗ bigSep Finset.univ fun a : Fin 4 => bigSep Finset.univ fun k : Fin 8 => dutyTok ER (dc a (dst a c) k) 0 false)
/-- what others owe it at launch, -/
def credits : sProp 𝕄 :=
  iprop(cred (tallyAt (bar c) () 2) ∗ (bigSep Finset.univ fun k : Fin 8 => cred (tallyAt (dc 1 c k) () N))
    ∗ bigSep Finset.univ fun k : Fin 8 => cred (tallyAt (dc 3 c k) () N))
/-- and its semaphores' counters at the end. -/
def zeros : sProp 𝕄 :=
  iprop(semVal (bar c) 0 ∗ bigSep Finset.univ fun a : Fin 4 => bigSep Finset.univ fun k : Fin 8 => semVal (dc a c k) 0)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

variable (X : Blocks F) (K : Dev nD × Cell → ℕ)

/-- The entries of one array, their round over, are closed. -/
theorem close_array (a : Fin 4) :
    iprop(records X K ∗ bigSep Finset.univ fun k : Fin 8 => atPos ER (dc a c k) 1 ∅ 0)
      ⊢ |={Set.univ}=> bigSep Finset.univ fun k : Fin 8 => (semVal (dc a c k) 0 : sProp 𝕄) :=
  (bigSep_with_persistent fun k _ => by
    iintro ⟨#HR, Hat⟩
    ihave ⟨#HI, -⟩ := (records_dma X K a c k) $$ HR
    iapply (Rounds.cell_close ER (rds X) (Set.mem_univ (K (c, .inr (a, k)))) (fun h => h) (R := 1) (duties_later X (dc a c k)))
    isplitr; · iexact HI
    iexact Hat).trans (bigSep_fupd _ _)

/-- The second pass needs, chunk by chunk, pieces of what the device holds. -/
theorem needY_all (f g : Vec F S2048x2048 .f32) :
    iprop((bigSep Finset.univ fun k : Fin 8 => cred (tallyAt (dc 1 c k) () N)) ∗ (bigSep Finset.univ fun k : Fin 8 => atPos ER (dc 1 c k) 0 ∅ 0)
        ∗ oHalf c c f ∗ oHalf (py c) c g
        ∗ (bigSep Finset.univ fun k : Fin 8 => dutyTok ER (dc 2 c k) 0 false) ∗ (bigSep Finset.univ fun k : Fin 8 => dutyTok ER (dc 3 (py c) k) 0 false))
      ⊢ (bigSep Finset.univ (needY c) : sProp 𝕄) := by
  rw [half_chunks, half_chunks, ← bigSep_sep', ← bigSep_sep', ← bigSep_sep', ← bigSep_sep', ← bigSep_sep']
  refine bigSep_mono fun k _ => ?_
  show (_ : sProp 𝕄) ⊢ _
  unfold needY
  iintro ⟨H₁, H₂, H₃, H₄, H₅⟩
  isplitl [H₁]; · iexact H₁
  isplitl [H₂]; · iexact H₂
  isplitl [H₃]; · iexists f; iexact H₃
  isplitl [H₄]; · iexists g; iexact H₄
  iexact H₅

theorem needX_all (f : Vec F S2048x1024 .f32) :
    iprop((((c : Thread nD τ).loc cc0_stg0_0) ↦{fullShare.left} X c) ∗ rAll (px c) f
        ∗ (bigSep Finset.univ fun k : Fin 8 => dutyTok ER (dc 0 c k) 0 false) ∗ (bigSep Finset.univ fun k : Fin 8 => dutyTok ER (dc 1 (px c) k) 0 false))
      ⊢ (bigSep Finset.univ (needX X c) : sProp 𝕄) := by
  rw [x_chunks, r_chunks, ← bigSep_sep', ← bigSep_sep', ← bigSep_sep']
  refine bigSep_mono fun k _ => ?_
  show (_ : sProp 𝕄) ⊢ _
  unfold needX
  iintro ⟨H₁, H₂, H₃⟩
  isplitl [H₁]; · iexact H₁
  isplitl [H₂]; · iexists f; iexact H₂
  iexact H₃

/-- All the second pass leaves, -/
theorem doneY_all : (bigSep Finset.univ (doneY X c) : sProp 𝕄)
    ⊢ iprop((bigSep Finset.univ fun k : Fin 8 => atPos ER (dc 1 c k) 1 ∅ 0) ∗ rAll c (landed X c)
      ∗ bigSep Finset.univ fun k : Fin 8 => cred (tallyAt (dc 2 c k) () N)) := by
  rw [r_chunks, ← bigSep_sep', ← bigSep_sep']
  exact BI.Entails.refl _
/-- and all the last does. -/
theorem doneZ_all : (bigSep Finset.univ (doneZ X c) : sProp 𝕄)
    ⊢ iprop(((bigSep Finset.univ fun k : Fin 8 => atPos ER (dc 0 c k) 1 ∅ 0) ∗ (((c : Thread nD τ).loc cc0_stg0_0) ↦{fullShare.left} X c))
      ∗ ((bigSep Finset.univ fun k : Fin 8 => atPos ER (dc 2 c k) 1 ∅ 0) ∗ oHalf c c (outAt X c))
      ∗ ((bigSep Finset.univ fun k : Fin 8 => atPos ER (dc 3 c k) 1 ∅ 0) ∗ oHalf c (py c) (outAt X c))) := by
  rw [x_chunks, half_chunks, half_chunks, ← bigSep_sep', ← bigSep_sep', ← bigSep_sep', ← bigSep_sep', ← bigSep_sep']
  exact BI.Entails.refl _
theorem needZ_all :
    iprop(((bigSep Finset.univ fun k : Fin 8 => cred (tallyAt (dc 0 c k) () N)) ∗ (bigSep Finset.univ fun k : Fin 8 => atPos ER (dc 0 c k) 0 ∅ 0))
        ∗ ((bigSep Finset.univ fun k : Fin 8 => cred (tallyAt (dc 2 c k) () N)) ∗ (bigSep Finset.univ fun k : Fin 8 => atPos ER (dc 2 c k) 0 ∅ 0))
        ∗ ((bigSep Finset.univ fun k : Fin 8 => cred (tallyAt (dc 3 c k) () N)) ∗ (bigSep Finset.univ fun k : Fin 8 => atPos ER (dc 3 c k) 0 ∅ 0)))
      ⊢ (bigSep Finset.univ (needZ c) : sProp 𝕄) := by
  rw [← bigSep_sep', ← bigSep_sep', ← bigSep_sep', ← bigSep_sep', ← bigSep_sep']
  exact BI.Entails.refl _

/-- What the body starts from, beside the records and levels, -/
def before (f : Vec F S2048x1024 .f32) (g : Vec F S2048x2048 .f32) : sProp 𝕄 :=
  iprop(positions c ∗ duties c ∗ credits c ∗ rAll c f
    ∗ (((c : Thread nD τ).loc cc0_stg0_0) ↦{fullShare} X c) ∗ (((c : Thread nD τ).loc cc0_stg1_0) ↦{fullShare} g))
/-- and what it ends with: nothing owed, the counters at zero, the block as it was and the result. -/
def finished : sProp 𝕄 :=
  iprop((∃ W, owes (c : Thread nD τ) 0 W) ∗ zeros c ∗ rAll c (landed X c)
    ∗ (((c : Thread nD τ).loc cc0_stg0_0) ↦{fullShare} X c) ∗ (((c : Thread nD τ).loc cc0_stg1_0) ↦{fullShare} outAt X c))

set_option maxHeartbeats 1600000 in
theorem run_looped (W : Waits sig Unit) (f : Vec F S2048x1024 .f32) (g : Vec F S2048x2048 .f32) :
    iprop(records X K ∗ levAts L lv ∗ owes (c : Thread nD τ) (O₀ c) W ∗ before c X f g)
      ⊢ Run c looped (fun _ => finished c X) := by
  unfold looped
  simp only [semSignalWord, semWaitWord, Prog.lift, Prog.bind_op, Prog.bind_ret, wp_deviceId, barX_eq, barY_eq]
  unfold before positions duties credits
  rw [bigSep_four, bigSep_four]
  iintro ⟨#HR, #Hlev, HO, ⟨HaB, Ha0, Ha1, Ha2, Ha3⟩, ⟨HtX, HtY, Ht0, Ht1, Ht2, Ht3⟩, ⟨HcB, Hc1, Hc3⟩, Hr, Hx, Ho⟩
  ihave ⟨#HIx, #Hmx⟩ := (records_bar X K (px c)) $$ HR
  ihave ⟨#HIy, #Hmy⟩ := (records_bar X K (py c)) $$ HR
  ihave ⟨#HIb, -⟩ := (records_bar X K c) $$ HR
  -- the neighbour along the first axis may now write the landing buffer
  unfold O₀
  iapply (Rounds.wp_signal 𝒱₀ ER (rds X) (c : Thread nD τ) none (dst := (px c : Thread nD τ)) (κ := K (px c, .inl ()))
      (r := 0) (d := false) (Finset.mem_univ (α := Bool) _) (show 1 = (1#32 : BitVec 32).toNat by decide) () (O₁ c) rfl) $$ [HO HtX Hr]
  · isplitr; · iexact HIx
    isplitl [HO]; · iexact HO
    isplitl [HtX]; · iexact HtX
    isplitl [Hr]
    · iapply (show (rAll c f : sProp 𝕄) ⊢ (rds X).payload (bar (px c)) 0 false from by
        show _ ⊢ iprop(∃ f, rAll (px (px c)) f)
        rw [px_px]; iintro H; iexists f; iexact H)
      iexact Hr
    iexact Hmx
  iintro HO
  -- and the one along the second its column half of the result
  ihave ⟨Hown, Hoth⟩ := (o_halves c g).1 $$ Ho
  unfold O₁
  iapply (Rounds.wp_signal 𝒱₀ ER (rds X) (c : Thread nD τ) none (dst := (py c : Thread nD τ)) (κ := K (py c, .inl ()))
      (r := 0) (d := true) (Finset.mem_univ (α := Bool) _) (show 1 = (1#32 : BitVec 32).toNat by decide) () (O₂ c) rfl) $$ [HO HtY Hoth]
  · isplitr; · iexact HIy
    isplitl [HO]; · iexact HO
    isplitl [HtY]; · iexact HtY
    isplitl [Hoth]
    · iapply (show (oHalf c (py c) g : sProp 𝕄) ⊢ (rds X).payload (bar (py c)) 0 true from by
        show _ ⊢ iprop(∃ f, oHalf (py (py c)) (py c) f)
        rw [py_py]; iintro H; iexists g; iexact H)
      iexact Hoth
    iexact Hmy
  iintro HO
  -- both neighbours have allowed the same
  iapply (Rounds.wp_wait_rest_token 𝒱₀ ER (rds X) (c : Thread nD τ) none (κ := K (c, .inl ()))
      (wpE_semWait_eq 𝒱₀ (c : Thread nD τ) none Set.univ) (Set.mem_univ _) () (O := O₂ c) (W := W) (R := 0) (m := 0) (T := ∅)
      (by rw [expect_bar]; decide)) $$ [HcB HO HaB]
  · isplitr; · iexact HIb
    isplitl [HcB]; · iexact HcB
    isplitl [HO]; · iexact HO
    isplitr; · iapply (mayWait c (.reg barS) (O₂ c) le_rfl (above_O₂ c)); iexact Hlev
    iexact HaB
  iintro ⟨HO, HaB, -, Hp⟩
  ihave ⟨⟨%f', Hr'⟩, ⟨%g', Ho'⟩⟩ := (Entails.of_eq (rest_bar X c)) $$ Hp
  -- the first pass
  ihave ⟨Hxl, Hxr⟩ := (x_shares X c).1 $$ Hx
  ihave HA := (needX_all c X f') $$ [Hxl Hr' Ht0 Ht1]
  · isplitl [Hxl]; · iexact Hxl
    isplitl [Hr']; · iexact Hr'
    isplitl [Ht0]; · iexact Ht0
    iexact Ht1
  rw [wp_bind]
  ihave Hrun := (run_pass_all c (sendX c) (fun ks => through X K c (OL 3 c chunks + OL 1 c ks)) (needX X c)
    (fun k => cred (tallyAt (dc 0 c k) () N)) (fun k ks => by
      have h := run_sendX X K c k (OL 3 c chunks + OL 1 c ks)
      rw [add_assoc] at h
      exact h)) $$ [HO HA]
  · isplitl [HO]
    · unfold through
      isplitr; · iexact HR
      isplitr; · iexact Hlev
      iexists _; iexact HO
    iexact HA
  iapply wp_wand_r
  isplitl [Hrun]; · iexact Hrun
  iintro %_ ⟨HT, Hc0⟩
  -- the second
  ihave HA := (needY_all c g g') $$ [Hc1 Ha1 Hown Ho' Ht2 Ht3]
  · isplitl [Hc1]; · iexact Hc1
    isplitl [Ha1]; · iexact Ha1
    isplitl [Hown]; · iexact Hown
    isplitl [Ho']; · iexact Ho'
    isplitl [Ht2]; · iexact Ht2
    iexact Ht3
  rw [wp_bind]
  ihave Hrun := (run_pass_all c (addSend c) (fun ks => iprop(through X K c (OL 3 c ks) ∗ xRest X c)) (needY c) (doneY X c)
    (fun k ks => run_addSend X K c k ks)) $$ [HT HA Hxr]
  · isplitl [HT Hxr]
    · isplitl [HT]
      · iapply (Entails.of_eq (congrArg (through X K c) (show OL 3 c chunks + OL 1 c [] = OL 3 c chunks from add_zero _))); iexact HT
      unfold xRest; iexact Hxr
    iexact HA
  iapply wp_wand_r
  isplitl [Hrun]; · iexact Hrun
  iintro %_ ⟨⟨HT, Hxr⟩, Hd⟩
  ihave ⟨Ha1, Hr, Hc2⟩ := (doneY_all c X) $$ Hd
  -- the third
  ihave HA := (needZ_all (F := F) c) $$ [Hc0 Ha0 Hc2 Ha2 Hc3 Ha3]
  · isplitl [Hc0 Ha0]; · isplitl [Hc0] <;> iassumption
    isplitl [Hc2 Ha2]; · isplitl [Hc2] <;> iassumption
    isplitl [Hc3] <;> iassumption
  ihave Hrun := (run_pass_all c (finish c) (fun _ => through X K c 0) (needZ c) (doneZ X c) (fun k _ => run_finish X K c k)) $$ [HT HA]
  · isplitl [HT]; · iexact HT
    iexact HA
  iapply wp_fupd
  iapply wp_wand_r
  isplitl [Hrun]; · iexact Hrun
  iintro %_ ⟨HT, Hd⟩
  ihave ⟨⟨Ha0, Hxl⟩, ⟨Ha2, Hown⟩, Ha3, Hoth⟩ := (doneZ_all c X) $$ Hd
  -- every semaphore is closed
  imod (close_array c X K 0) $$ [Ha0] with Hz0
  · isplitr; · iexact HR
    iexact Ha0
  imod (close_array c X K 1) $$ [Ha1] with Hz1
  · isplitr; · iexact HR
    iexact Ha1
  imod (close_array c X K 2) $$ [Ha2] with Hz2
  · isplitr; · iexact HR
    iexact Ha2
  imod (close_array c X K 3) $$ [Ha3] with Hz3
  · isplitr; · iexact HR
    iexact Ha3
  imod (Rounds.cell_close ER (rds X) (Set.mem_univ (K (c, .inl ()))) (fun h => h) (R := 0 + 1) (duties_later X (bar c))) $$ [HaB] with HzB
  · isplitr; · iexact HIb
    iexact HaB
  imodintro
  unfold finished zeros through
  rw [bigSep_four]
  isplitl [HT]
  · icases HT with ⟨-, -, HO⟩; iexact HO
  isplitl [HzB Hz0 Hz1 Hz2 Hz3]
  · isplitl [HzB]; · iexact HzB
    isplitl [Hz0]; · iexact Hz0
    isplitl [Hz1]; · iexact Hz1
    isplitl [Hz2] <;> iassumption
  isplitl [Hr]; · iexact Hr
  isplitl [Hxl Hxr]
  · iapply (x_shares X c).2
    isplitl [Hxl]; · iexact Hxl
    unfold xRest; iexact Hxr
  iapply (o_halves c (outAt X c)).2
  isplitl [Hown] <;> iassumption

end Pieces

end Cert.MeshSum

end
-- ==== Proof.Launch.lean ====
/-
The launch: the invariants and tokens dealt out to the four devices, and the run of the whole program from any memory.
-/
module

public import proofs.«01_k».proof.Proof.Body
public import proofs.«01_k».proof.Proof.Gen.KernelIdeal.Points
public import Idealize.ShloMosaic.Lib.Pipeline.CollectiveSegs

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- The staged blocks. -/
def staged : Blocks F := fun c => (win0_0.blk (0 : Fin 1)).view.read (Elt F) (m ((c : Thread nD τ).loc main_arg0))

/-! ## The pipeline's data -/

/-- What a device starts the kernel with, beside its buffers. -/
def start (c : Dev nD) : sProp 𝕄 :=
  iprop(((∃ K, records (staged m) K) ∗ positions c ∗ duties c) ∗ credits c ∗ levAts L lv)
/-- The state beside the staged windows before the body, -/
def Φ₀ (c : Dev nD) : sProp 𝕄 := iprop(start m c ∗ ∃ f, rAll c f)
/-- and after it. -/
def Φ₁ (c : Dev nD) : sProp 𝕄 := iprop(zeros c ∗ rAll c (landed (staged m) c))

def dats (_ : Fin 1) (c : Dev nD) : Dat τ (Elt F) Unit ℕ UU ℕ cfg0 c where
  A w := m ((cfg0.win w).arr.view.loc (c : Thread nD τ))
  after w _ := match w with
    | ⟨0, _⟩ => staged m c
    | ⟨1, _⟩ => outAt (staged m) c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Device `c`'s buffer `b`, all of it, holding `X`. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- Owning the whole of a buffer at contents is holding it. -/
theorem owns_whole (c : Dev nD) (b : Ref sig .tc) (X : b.ty.Contents (Elt F)) :
    owns (c : Thread nD τ) (Memref.whole b) fullShare X = held c b X := by
  dsimp only [owns, held]
  simp only [Memref.view_whole, View.read_whole, View.set_whole]

/-- What the body takes, -/
def bodyPre (c : Dev nD) : sProp 𝕄 :=
  iprop(Φ₀ m c ∗ (dats m 0 c).owesAt () t0_0.castSucc
    ∗ (∃ d, held c cc0_stg0_0 ((dats m 0 c).before (0 : Fin 2) t0_0 d))
    ∗ (∃ d, held c cc0_stg1_0 ((dats m 0 c).before (1 : Fin 2) t0_0 d)))
/-- and what it leaves. -/
def bodyPost (c : Dev nD) : sProp 𝕄 :=
  iprop(Φ₁ m c ∗ (dats m 0 c).owesAt () t0_0.succ ∗ held c cc0_stg0_0 (staged m c) ∗ held c cc0_stg1_0 (outAt (staged m) c))

omit [FloatOps F] in
theorem bigSep_windows (Φ : Fin cfg0.W → sProp 𝕄) : bigSep Finset.univ Φ = iprop(Φ (0 : Fin 2) ∗ Φ (1 : Fin 2)) := bigSep_W0 Φ

/-- What the staged block's buffer holds before the body. -/
theorem before_x (c : Dev nD) (d) : (dats m 0 c).before (0 : Fin 2) t0_0 d = staged m c := by
  unfold Dat.before; rw [if_pos (fetch0_0 t0_0)]; rfl

set_option maxRecDepth 20000 in
/-- The body's obligation on device `c`. -/
theorem body_obligation (c : Dev nD) : BodyObligation (dats (F := F) m 0 c) (defs₀ (F := F)) 𝒱₀ () Set.univ := fun t => by
  rw [fin_N0 t, bigSep_windows, bigSep_windows]
  simp only [owns_whole]
  show bodyPre m c ⊢ Run c (cc0_body (Memref.whole cc0_stg0_0) (Memref.isWhole_whole _) (Memref.whole cc0_stg1_0) (Memref.isWhole_whole _)
    (Memref.whole cc0_scratch0) (Memref.isWhole_whole _) cc0_scratch1 cc0_scratch2 cc0_scratch3 cc0_scratch4) (fun _ => bodyPost m c)
  rw [show (cc0_body (F := F) (Memref.whole cc0_stg0_0) (Memref.isWhole_whole _) (Memref.whole cc0_stg1_0) (Memref.isWhole_whole _)
    (Memref.whole cc0_scratch0) (Memref.isWhole_whole _) cc0_scratch1 cc0_scratch2 cc0_scratch3 cc0_scratch4) = looped from body_eq_looped]
  unfold bodyPre Φ₀ start
  iintro ⟨⟨⟨⟨⟨%K, #HR⟩, Hp, Hd⟩, Hc, #Hlev⟩, ⟨%f, Hr⟩⟩, Ho, ⟨%d₀, %x, %hx, Hx⟩, ⟨%d₁, %g, %hg, Hg⟩⟩
  rw [before_x] at hx
  subst hx
  unfold Dat.owesAt
  icases Ho with ⟨%W, %hW, Ho⟩
  ihave Hrun := (run_looped c (staged m) K W f g) $$ [Hp Hd Hc Hr Ho Hx Hg]
  · isplitr; · iexact HR
    isplitr; · iexact Hlev
    isplitl [Ho]; · iexact Ho
    unfold before
    isplitl [Hp]; · iexact Hp
    isplitl [Hd]; · iexact Hd
    isplitl [Hc]; · iexact Hc
    isplitl [Hr]; · iexact Hr
    isplitl [Hx]; · iexact Hx
    iexact Hg
  iapply wp_wand_r
  isplitl [Hrun]; · iexact Hrun
  iintro %_ H
  unfold finished bodyPost Φ₁ Dat.owesAt
  icases H with ⟨⟨%W', Ho⟩, Hz, Hr, Hx, Hg⟩
  isplitl [Hz Hr]
  · isplitl [Hz] <;> iassumption
  isplitl [Ho]
  · iexists W'
    isplitr; · ipureintro; exact fun _ _ => Or.inl trivial
    iexact Ho
  isplitl [Hx]
  · iexists (staged m c); isplitr; · ipureintro; rfl
    iexact Hx
  iexists (outAt (staged m) c); isplitr; · ipureintro; rfl
  iexact Hg

/-! ## The ghost state minted at launch -/

/-- The kernel's own semaphores: the four arrays. -/
def osem (ak : Fin 4 × Fin 8) : SemLoc sig := .dma (dsem ak.1 ak.2)
theorem ownSemFacts : Pipeline.OwnSemFacts cfg0.spec osem := by decide

theorem kcell_injective : Function.Injective (kcell : Dev nD × Cell → GSem nD τ sig) := fun p p' h =>
  Prod.ext (congrArg (fun g : GSem nD τ sig => g.1.1) h) (csem_injective (congrArg Prod.snd h))
def allCells : Finset (GSem nD τ sig) := Finset.univ.map ⟨kcell, kcell_injective⟩

/-- The duties of a device's own semaphores: two at the barrier, one at each entry of the arrays. -/
abbrev Duty : Type := Bool ⊕ (Fin 4 × Fin 8)
def dutyOf : Duty → SemLoc sig × ℕ × Bool
  | .inl b => (.reg barS, 0, b)
  | .inr ak => (.dma (dsem ak.1 ak.2), 0, false)
theorem dutyOf_injective : Function.Injective dutyOf := by decide
def tokOf (p : Dev nD × Duty) : GSem nD τ sig × ℕ × Bool := (((p.1 : Thread nD τ), (dutyOf p.2).1), (dutyOf p.2).2)
theorem tokOf_injective : Function.Injective tokOf := fun p p' h =>
  Prod.ext (congrArg (fun x : GSem nD τ sig × ℕ × Bool => x.1.1.1) h)
    (dutyOf_injective (Prod.ext (congrArg (fun x : GSem nD τ sig × ℕ × Bool => x.1.2) h) (congrArg (fun x : GSem nD τ sig × ℕ × Bool => x.2) h)))
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

variable (X : Blocks F)

/-- What the launch deals over all devices: every semaphore's state, position and round, and every duty's token. -/
def stateAt (p : Dev nD × Cell) : sProp 𝕄 := roundState ER (rds X) (kcell p) 0
def posAt (p : Dev nD × Cell) : sProp 𝕄 := atPos ER (kcell p) 0 ∅ 0
def reachedAt (p : Dev nD × Cell) : sProp 𝕄 := reached ER (kcell p) 0
def tokAt (p : Dev nD × Duty) : sProp 𝕄 := dutyTok ER (tokOf p).1 (tokOf p).2.1 (tokOf p).2.2

/-- Device `c`'s part of it, -/
def dealt (c : Dev nD) : sProp 𝕄 :=
  iprop((bigSep Finset.univ fun i : Cell => stateAt X (c, i)) ∗ (bigSep Finset.univ fun i : Cell => posAt (c, i))
    ∗ (bigSep Finset.univ fun i : Cell => reachedAt (c, i)) ∗ bigSep Finset.univ fun j : Duty => tokAt (c, j))
/-- and what becomes of it. -/
def held₀ (c : Dev nD) : sProp 𝕄 := iprop((∃ K, records X K) ∗ positions c ∗ duties c)

theorem mint : BI.own (ER (initOf allCells allToks)) ⊢ (|==> bigSep Finset.univ (dealt X) : sProp 𝕄) := by
  have hC (Φ : GSem nD τ sig → sProp 𝕄) : bigSep allCells Φ = bigSep Finset.univ fun c : Dev nD => bigSep Finset.univ fun i : Cell => Φ (kcell (c, i)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun j : Duty => tokAt (c, j) := by
    unfold allToks; rw [bigSep_map, bigSep_univ_prod]; rfl
  unfold dealt
  simp only [bigSep_sep']
  iintro H
  imod (Rounds.fund ER (rds X) allCells allToks) $$ H with ⟨Hs, Hr, Hp, Ht⟩
  imodintro
  isplitl [Hs]; · iapply (Entails.of_eq (hC fun g => roundState ER (rds X) g 0)); iexact Hs
  isplitl [Hp]; · iapply (Entails.of_eq (hC fun g => atPos ER g 0 ∅ 0)); iexact Hp
  isplitl [Hr]; · iapply (Entails.of_eq (hC fun g => reached ER g 0)); iexact Hr
  iapply (Entails.of_eq hT); iexact Ht

/-- A device's semaphores one by one: the barrier, then the arrays. -/
theorem bigSep_cells (Φ : Cell → sProp 𝕄) :
    bigSep Finset.univ Φ = iprop(Φ (.inl ()) ∗ bigSep Finset.univ fun a : Fin 4 => bigSep Finset.univ fun k : Fin 8 => Φ (.inr (a, k))) := by
  rw [bigSep_univ_sum, bigSep_univ_of_subsingleton (i := ()), bigSep_univ_prod]; rfl

abbrev ownSems (c : Dev nD) : sProp 𝕄 := Pipeline.ownSems0 (Ix := Unit) (Name := ℕ) (U := UU) (Lvl := ℕ) (Val := Elt F) (τ := τ) osem c

/-- The counters of the kernel's own semaphores and of the barrier are all the device's counters, at zero. -/
theorem zeros_eq (c : Dev nD) : iprop(unscopedSems0 c ∗ ownSems c) = (zeros c : sProp 𝕄) := by
  unfold zeros ownSems Pipeline.ownSems0 unscopedSems0
  rw [bigSep_eq_bigSepL_of_eq [SemLoc.reg barS] (by decide) (by decide), bigSepL_singleton, bigSep_univ_prod]; rfl
theorem zeros_cells (c : Dev nD) : (zeros c : sProp 𝕄) = bigSep Finset.univ fun i : Cell => semVal (kcell (c, i)) 0 := by
  rw [bigSep_cells]; rfl
theorem positions_cells (c : Dev nD) : (positions c : sProp 𝕄) = bigSep Finset.univ fun i : Cell => posAt (c, i) := by
  rw [bigSep_cells]; rfl

/-- The counters and states of one device become invariants. -/
theorem allocate (c : Dev nD) :
    iprop(ownSems c ∗ unscopedSems0 c ∗ dealt X c)
      ⊢ |={Set.univ}=> iprop((bigSep Finset.univ fun i : Cell => iprop(∃ κ : ℕ, cellInv ER (rds X) κ (kcell (c, i))))
          ∗ (bigSep Finset.univ fun i : Cell => posAt (c, i)) ∗ (bigSep Finset.univ fun i : Cell => reachedAt (c, i))
          ∗ bigSep Finset.univ fun j : Duty => (tokAt (c, j) : sProp 𝕄)) := by
  unfold dealt
  iintro ⟨Ho, Hu, Hs, Hrest⟩
  ihave Hz := (Entails.of_eq ((zeros_eq (F := F) c).trans (zeros_cells c))) $$ [Ho Hu]
  · isplitl [Hu] <;> iassumption
  imod (show iprop((bigSep Finset.univ fun i : Cell => semVal (kcell (c, i)) 0) ∗ bigSep Finset.univ fun i : Cell => stateAt X (c, i))
      ⊢ (|={Set.univ}=> bigSep Finset.univ fun i : Cell => iprop(∃ κ : ℕ, cellInv ER (rds X) κ (kcell (c, i))) : sProp 𝕄) from by
    rw [← bigSep_sep']
    exact (bigSep_mono fun i _ => (Rounds.body_intro ER (rds X) (kcell (c, i))).trans inv_alloc).trans (bigSep_fupd _ _)) $$ [Hz Hs] with HI
  · isplitl [Hz] <;> iassumption
  imodintro
  isplitl [HI]; · iexact HI
  iexact Hrest

/-- The tokens go to the devices that pay: a barrier's two to its two neighbours, a receive end's to the sender. -/
theorem deal_tokens : (bigSep Finset.univ fun c : Dev nD => bigSep Finset.univ fun j : Duty => (tokAt (c, j) : sProp 𝕄)) ⊢ bigSep Finset.univ duties := by
  have h (c : Dev nD) : (bigSep Finset.univ fun j : Duty => (tokAt (c, j) : sProp 𝕄))
      = iprop((dutyTok ER (bar c) 0 false ∗ dutyTok ER (bar c) 0 true)
        ∗ bigSep Finset.univ fun a : Fin 4 => bigSep Finset.univ fun k : Fin 8 => dutyTok ER (dc a c k) 0 false) := by
    rw [bigSep_univ_sum, bigSep_univ_prod, bigSep_univ_eq_bigSepL [false, true] (by decide) (by decide), bigSepL_cons_cons, bigSepL_singleton]; rfl
  unfold duties
  rw [bigSep_congr fun c _ => h c, bigSep_sep', bigSep_sep', bigSep_sep', bigSep_sep',
    bigSep_univ_equiv pxE (fun c : Dev nD => (dutyTok ER (bar c) 0 false : sProp 𝕄)),
    bigSep_univ_equiv pyE (fun c : Dev nD => (dutyTok ER (bar c) 0 true : sProp 𝕄)),
    bigSep_univ_comm, bigSep_univ_comm (fun (c : Dev nD) (a : Fin 4) => bigSep Finset.univ fun k : Fin 8 => (dutyTok ER (dc a (dst a c) k) 0 false : sProp 𝕄)),
    bigSep_congr fun (a : Fin 4) _ => bigSep_univ_equiv (dst a) (fun c : Dev nD => bigSep Finset.univ fun k : Fin 8 => (dutyTok ER (dc a c k) 0 false : sProp 𝕄))]
  iintro ⟨⟨H₁, H₂⟩, H₃⟩
  isplitl [H₁]; · iexact H₁
  isplitl [H₂]; · iexact H₂
  iexact H₃

/-- All devices together: the invariants' names are chosen, and every device has the records. -/
theorem regroup :
    (bigSep Finset.univ fun c : Dev nD => iprop((bigSep Finset.univ fun i : Cell => iprop(∃ κ : ℕ, cellInv ER (rds X) κ (kcell (c, i))))
          ∗ (bigSep Finset.univ fun i : Cell => posAt (c, i)) ∗ (bigSep Finset.univ fun i : Cell => reachedAt (c, i))
          ∗ bigSep Finset.univ fun j : Duty => (tokAt (c, j) : sProp 𝕄)))
      ⊢ bigSep Finset.univ (held₀ X) := by
  rw [bigSep_sep', bigSep_sep', bigSep_sep',
    ← bigSep_univ_prod (fun p : Dev nD × Cell => iprop(∃ κ : ℕ, cellInv ER (rds X) κ (kcell p))),
    ← bigSep_univ_prod (fun p : Dev nD × Cell => (reachedAt p : sProp 𝕄))]
  iintro ⟨HI, Hp, HR, Ht⟩
  ihave ⟨%K, HI⟩ := (BI.bigSep_exists_pi Finset.univ (fun (p : Dev nD × Cell) (κ : ℕ) => (cellInv ER (rds X) κ (kcell p) : sProp 𝕄))) $$ HI
  ihave #Hrec := (show iprop((bigSep Finset.univ fun p : Dev nD × Cell => cellInv ER (rds X) (K p) (kcell p)) ∗ bigSep Finset.univ fun p : Dev nD × Cell => reachedAt p)
      ⊢ (records X K : sProp 𝕄) from by unfold records; rw [bigSep_sep']; exact BI.Entails.refl _) $$ [HI HR]
  · isplitl [HI] <;> iassumption
  ihave Ht := (deal_tokens (F := F)) $$ Ht
  iapply (bigSep_with_persistent (R := records X K) (Φ := fun c => iprop(positions c ∗ duties c)) (Ψ := held₀ X) fun c _ => by
    unfold held₀
    iintro ⟨#H, H'⟩
    isplitr; · iexists K; iexact H
    iexact H')
  isplitr; · iexact Hrec
  rw [bigSep_sep', bigSep_congr fun c _ => positions_cells (F := F) c]
  isplitl [Hp]; · iexact Hp
  iexact Ht

theorem launch_all : (bigSep Finset.univ fun c : Dev nD => iprop(ownSems c ∗ unscopedSems0 c ∗ dealt X c) : sProp 𝕄)
    ⊢ |={Set.univ}=> bigSep Finset.univ (held₀ X) :=
  ((bigSep_mono fun c _ => allocate X c).trans (bigSep_fupd _ _)).trans (BI.fupd_mono (regroup X))

/-! ## The credits at launch -/

/-- What device `d` owes, of the copies of array `a`, to entry `k` of array `a'` of device `c`, -/
theorem OL_dma (a a' : Fin 4) (d c : Dev nD) (k : Fin 8) (ks : List (Fin 8)) (hn : ks.Nodup) :
    OL a d ks (dc a' c k) () = if (a = a' ∧ dst a d = c) ∧ k ∈ ks then N else 0 := by
  induction ks with
  | nil => rw [if_neg (by simp)]; rfl
  | cons k' ks ih =>
    have hk := List.nodup_cons.mp hn
    unfold OL
    rw [Pi.add_apply, Finsupp.add_apply, ih hk.2, tallyAt_apply]
    have hiff : ((dc a' c k = dc a (dst a d) k') ∧ () = ()) ↔ (a = a' ∧ dst a d = c) ∧ k = k' := by
      constructor
      · rintro ⟨h, -⟩
        have := kcell_injective (a₁ := (c, .inr (a', k))) (a₂ := (dst a d, .inr (a, k'))) h
        simp only [Prod.mk.injEq, Sum.inr.injEq] at this
        exact ⟨⟨this.2.1.symm, this.1.symm⟩, this.2.2⟩
      · rintro ⟨⟨rfl, rfl⟩, rfl⟩; exact ⟨rfl, rfl⟩
    rw [if_congr hiff rfl rfl]
    by_cases h : a = a' ∧ dst a d = c
    · by_cases hkk : k = k'
      · subst hkk; rw [if_neg (fun h' => hk.1 h'.2), if_pos ⟨h, rfl⟩, if_pos ⟨h, List.mem_cons_self⟩, Nat.zero_add]
      · rw [if_neg (c := (a = a' ∧ dst a d = c) ∧ k = k') (fun h' => hkk h'.2), Nat.add_zero]
        exact if_congr (and_congr_right fun _ => ⟨List.mem_cons_of_mem _, fun h' => (List.mem_cons.mp h').resolve_left hkk⟩) rfl rfl
    · rw [if_neg (fun h' => h h'.1), if_neg (fun h' => h h'.1), if_neg (fun h' => h h'.1)]
/-- and to its barrier: nothing. -/
theorem OL_bar (a : Fin 4) (d c : Dev nD) (ks : List (Fin 8)) : OL a d ks (bar c) () = 0 := by
  induction ks with
  | nil => rfl
  | cons k' ks ih =>
    unfold OL
    rw [Pi.add_apply, Finsupp.add_apply, ih, tallyAt_ne_cell (fun h => by cases congrArg Prod.snd h)]; rfl

theorem owed_bar (d c : Dev nD) : O₀ d (bar c) () = (if d = py c then 1 else 0) + (if d = px c then 1 else 0) := by
  have hb (e : Dev nD) : (bar c = bar e ∧ () = ()) ↔ c = e := ⟨fun h => congrArg (fun g : GSem nD τ sig => g.1.1) h.1, fun h => by subst h; exact ⟨rfl, rfl⟩⟩
  have hx : c = px d ↔ d = px c := ⟨fun h => by rw [h, px_px], fun h => by rw [h, px_px]⟩
  have hy : c = py d ↔ d = py c := ⟨fun h => by rw [h, py_py], fun h => by rw [h, py_py]⟩
  unfold O₀ O₁ O₂
  simp only [Pi.add_apply, Finsupp.add_apply]
  rw [OL_bar, OL_bar, tallyAt_apply, tallyAt_apply, if_congr ((hb _).trans hx) rfl rfl, if_congr ((hb _).trans hy) rfl rfl, Nat.add_zero, Nat.zero_add]
theorem owed_dma (d c : Dev nD) (a : Fin 4) (k : Fin 8) :
    O₀ d (dc a c k) () = (if 3 = a ∧ d = py c then N else 0) + (if 1 = a ∧ d = px c then N else 0) := by
  have hx : px d = c ↔ d = px c := ⟨fun h => by rw [← h, px_px], fun h => by rw [h, px_px]⟩
  have hy : py d = c ↔ d = py c := ⟨fun h => by rw [← h, py_py], fun h => by rw [h, py_py]⟩
  have hk : k ∈ chunks := by revert k; decide
  unfold O₀ O₁ O₂
  simp only [Pi.add_apply, Finsupp.add_apply]
  rw [OL_dma _ _ _ _ _ _ (by decide), OL_dma _ _ _ _ _ _ (by decide), tallyAt_ne_cell (fun h => by cases congrArg Prod.snd h),
    tallyAt_ne_cell (fun h => by cases congrArg Prod.snd h)]
  simp only [Finsupp.zero_apply, Nat.add_zero]
  have h₃ : ((3 = a ∧ dst 3 d = c) ∧ k ∈ chunks) ↔ 3 = a ∧ d = py c := ⟨fun h => ⟨h.1.1, hy.mp h.1.2⟩, fun h => ⟨⟨h.1, hy.mpr h.2⟩, hk⟩⟩
  have h₁ : ((1 = a ∧ dst 1 d = c) ∧ k ∈ chunks) ↔ 1 = a ∧ d = px c := ⟨fun h => ⟨h.1.1, hx.mp h.1.2⟩, fun h => ⟨⟨h.1, hx.mpr h.2⟩, hk⟩⟩
  rw [if_congr h₃ rfl rfl, if_congr h₁ rfl rfl]

theorem launch_bar (c : Dev nD) :
    tallyOn (bar c) (launchCredit (Pipeline.owing O₀) 0 (bar c)) = (tallyAt (bar c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (py c) fun _ => 1, Finset.sum_ite_eq' Finset.univ (px c) fun _ => 1, if_pos (Finset.mem_univ _), if_pos (Finset.mem_univ _)]
theorem launch_dma (c : Dev nD) (a : Fin 4) (k : Fin 8) (ha : a = 1 ∨ a = 3) :
    tallyOn (dc a c k) (launchCredit (Pipeline.owing O₀) 0 (dc a c k)) = (tallyAt (dc a c k) () N : CellTallies nD τ sig Unit) := by
  unfold tallyAt; refine congrArg _ (Finsupp.ext fun u => ?_); cases u
  rw [Pipeline.launchCredit_owing, Finsupp.single_eq_same, Finset.sum_congr rfl fun d _ => owed_dma d c a k]
  rcases ha with rfl | rfl
  · rw [Finset.sum_congr rfl (g := fun d => if d = px c then N else 0) fun d _ => by simp, Finset.sum_ite_eq' Finset.univ (px c) fun _ => N, if_pos (Finset.mem_univ _)]
  · rw [Finset.sum_congr rfl (g := fun d => if d = py c then N else 0) fun d _ => by simp, Finset.sum_ite_eq' Finset.univ (py c) fun _ => N, if_pos (Finset.mem_univ _)]

theorem credits_intro (c : Dev nD) : (Pipeline.launchCred O₀ c : sProp 𝕄) ⊢ credits c := by
  unfold Pipeline.launchCred
  refine (bigSep_subset (Finset.subset_univ (Finset.univ.map ⟨csem, csem_injective⟩))).trans ?_
  rw [bigSep_map, bigSep_cells, bigSep_four]
  unfold credits
  show (_ : sProp 𝕄) ⊢ _
  iintro ⟨HB, -, H₁, -, H₃⟩
  isplitl [HB]; · iapply (Entails.of_eq (congrArg cred (launch_bar c))); iexact HB
  isplitl [H₁]
  · iapply (Entails.of_eq (bigSep_congr fun (k : Fin 8) _ => congrArg cred (launch_dma c 1 k (Or.inl rfl)))); iexact H₁
  iapply (Entails.of_eq (bigSep_congr fun (k : Fin 8) _ => congrArg cred (launch_dma c 3 k (Or.inr rfl)))); iexact H₃

/-! ## The run -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ held₀ (staged m) c)
      ⊢ |={Set.univ}=> iprop(start m c ∗ emp) := by
  iintro ⟨-, Hlev, Hcr, -, H⟩
  ihave Hc := (credits_intro (F := F) c) $$ Hcr
  imodintro
  unfold start held₀
  isplitl
  · isplitl [H]; · iexact H
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ rAll
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq]
  unfold Φ₁ rAll
  iintro ⟨Hz, Hr⟩
  ihave ⟨Hu, Ho⟩ := (Entails.of_eq (zeros_eq (F := F) c).symm) $$ Hz
  isplitl [Hu]; · iexact Hu
  isplitl [Ho]; · iexact Ho
  iexists (landed (staged m) c); iexact Hr

theorem waits (c : Dev nD) : (levAts L lv : sProp 𝕄) ⊢ Pipeline.cellsWaits cfgs (dats m) () 0 c :=
  Pipeline.cellsWaits_intro cfgs (dats m) () 0 c fun w s t =>
    mayWait (b := 0) c _ _ (by fin_cases w <;> fin_cases s <;> decide) (by
      rcases t with ⟨_ | _, ht⟩
      · exact above_O₀ c
      · exact Above.zero 0)

/-- What a window's array holds after the run. -/
def finalA (c : Dev nD) (w : Fin cfg0.W) : Buf (Elt F) ((cfg0.win w).arr.view.loc (c : Thread nD τ)) := (dats m 0 c).arrAt w cfg0.N

set_option maxRecDepth 20000 in
/-- From any memory with all counters zero, every fair run of the four devices ends, with every window's array as computed and
    every counter zero again. -/
theorem run_main : θ_run defs (onTc (τ := τ) (main (F := F))) (s₀ m ρ) (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt (staged m)) (G' := held₀ (staged m)) (u₀ := u₀)
    (hu₀ := by
      unfold u₀
      iintro Hu
      ihave ⟨HP, HX⟩ := (ownU_pair _ _) $$ Hu
      imod (mint (staged m)) $$ HX with HG
      imodintro
      isplitl [HP] <;> iassumption)
    (hglob := launch_all (staged m))
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held. -/
theorem finalA_arg (c : Dev nD) : finalA m c (0 : Fin 2) = m (win0_0.arr.view.loc (c : Thread nD τ)) :=
  (dats (F := F) m 0 c).arrAt_in (0 : Fin 2) rfl _

end Cert.MeshSum

end
-- ==== Proof.Value.lean ====
/-
The value: at exact addition the result on every device is the sum over the first axis of the whole array.
-/
module

public import proofs.«01_k».proof.Proof.Launch
public import proofs.«01_k».proof.Defs
public import proofs.«01_k».proof.Proof.Gen.ReferenceIdeal.Run
public import Idealize.ShloMosaic.Lib.Pipeline.ValueKit.Geometry
public import Idealize.ShloMosaic.Lib.Pointwise.Reduce
public import Idealize.ShloMosaic.Lib.Pointwise.Tactic
public import Idealize.ShloMosaic.Lib.Layout
public import Idealize.ShloMosaic.Lib.IdealHost

@[expose] public section

noncomputable section

namespace Cert.MeshSum

open Cert.KernelIdeal Cert.KernelIdeal.Gen
open Idealize.ShloMosaic hiding ix2 ix3 eq_ix2 eq_ix3
open Idealize.ShloMosaic.TcCoe
open Idealize.SL.Sem
open Idealize.ShloMosaic.ValueIdx (ix2 ix3 eq_ix2 eq_ix3)

section Arrays
variable {F : FTy → Type} [FloatOps F] (m : (ℓ : Loc nD τ sig) → Buf (Elt F) ℓ) (ρ : Dev nD → PrngReg)

/-- The staged block is the whole argument. -/
theorem staged_apply (c : Dev nD) (j : S1x2048x1024.Idx) :
    staged m c j = (m ((c : Thread nD τ).loc main_arg0) : Vec F S1x2048x1024 .f32) j := by
  unfold staged
  rw [View.read_apply]
  have h : (win0_0.blk (0 : Fin 1)).view.emb j = j := funext fun a => Fin.ext
    (Pipeline.Window.rect_emb_val_of_index_zero win0_0 (0 : Fin 1) a (by revert a; decide +kernel) j)
  rw [h]; rfl

/-- The result's array ends at the body's result. -/
theorem finalA_out (c : Dev nD) : finalA m c (1 : Fin 2) = (outAt (staged m) c : Vec F S2048x2048 .f32) := by
  unfold finalA
  refine (dats m 0 c).arrAt_eq_of_after_last (1 : Fin 2) t0_0 (by decide +kernel : win0_1.WholeAt t0_0) _ fun j => ?_
  rfl

/-- The whole run, read at the program's argument and result. -/
theorem run_values : θ_run defs (onTc (τ := τ) (main (F := F))) (s₀ m ρ) (fun r =>
    (∀ c : Dev nD, r.2.mem ((c.tc : Thread nD τ).loc main_v1) = (outAt (staged m) c : Vec F S2048x2048 .f32)
      ∧ r.2.mem ((c.tc : Thread nD τ).loc main_arg0) = m ((c.tc : Thread nD τ).loc main_arg0)) ∧ r.2.sem = fun _ => 0) :=
  (θ_run defs _ _).mono (fun _ h => ⟨fun c => ⟨(h.1 c 1).trans (finalA_out m c), (h.1 c 0).trans (finalA_arg m c)⟩, h.2⟩) (run_main m ρ)

end Arrays

/-- Device `c`'s block of the whole array. -/
abbrev blockAt (V : (⟨3, ![2, 2048, 2048]⟩ : Shape).Idx → EReal) (c : Dev nD) : S1x2048x1024.Idx → EReal :=
  Layout.blockN ⟨3, ![1, 2048, 1024]⟩ ⟨3, ![2, 2048, 2048]⟩ (Layout.meshBlock [2, 2] ![[0], [], [1]] c) V

/-- Its plane is the mesh row, and its columns start at the mesh column's. -/
theorem blockAt_apply (V : (⟨3, ![2, 2048, 2048]⟩ : Shape).Idx → EReal) (c : Dev nD) (r : Fin 2048) (q : Fin 1024)
    (p : Fin 2) (q' : Fin 2048) (hp : p.val = c.val / 2) (hq : q'.val = 1024 * (c.val % 2) + q.val) :
    blockAt V c (ix3 (0 : Fin 1) r q) = V (ix3 p r q') := by
  have hc : c.val < 4 := c.isLt
  refine congrArg V (funext fun a => Fin.ext ?_)
  rw [Layout.TilesN.idx_val]
  fin_cases a
  · show (c.val / 2 % 2 * 1 + 0) * 1 + 0 = p.val
    omega
  · show 0 * 2048 + r.val = r.val
    omega
  · show (c.val / 1 % 2 * 1 + 0) * 1024 + q.val = q'.val
    omega

/-- The kernel's sum, over blocks of one array, is the sum of the array's two planes. -/
theorem outAt_blocks (V : (⟨3, ![2, 2048, 2048]⟩ : Shape).Idx → EReal) (c : Dev nD) (r q : Fin 2048) :
    outAt (F := Ideal) (blockAt V) c (ix2 r q) = V (ix3 (0 : Fin 2) r q) + V (ix3 (1 : Fin 2) r q) := by
  have hc : c.val < 4 := c.isLt
  have hq : q.val < 2048 := q.isLt
  show blockAt V (owner c q) (ix3 (0 : Fin 1) r ⟨q.val % 1024, _⟩) + blockAt V (px (owner c q)) (ix3 (0 : Fin 1) r ⟨q.val % 1024, _⟩) = _
  have hpx : (px (owner c q)).val = (2 * (c.val / 2) + q.val / 1024 + 2) % 4 := rfl
  have how : (owner c q).val = 2 * (c.val / 2) + q.val / 1024 := rfl
  rcases Nat.lt_or_ge c.val 2 with h | h
  · rw [blockAt_apply V (owner c q) r _ 0 q (by show 0 = _; omega) (by show q.val = _ + q.val % 1024; omega),
      blockAt_apply V (px (owner c q)) r _ 1 q (by show 1 = _; omega) (by show q.val = _ + q.val % 1024; omega)]
  · rw [blockAt_apply V (owner c q) r _ 1 q (by show 1 = _; omega) (by show q.val = _ + q.val % 1024; omega),
      blockAt_apply V (px (owner c q)) r _ 0 q (by show 0 = _; omega) (by show q.val = _ + q.val % 1024; omega)]
    exact add_comm _ _

/-- The reference's sum over the first axis, from zero, is the same. -/
theorem reference_sum (V : (⟨3, ![2, 2048, 2048]⟩ : Shape).Idx → EReal) (h) (h₀) (r q : Fin 2048) :
    Host.reduceAdd (F := Ideal) (φ := .f32) V (constant (F := Ideal) ⟨0, ![]⟩ .f32 0x00000000#32) (axes := [0]) (t := S2048x2048) h h₀ (ix2 r q)
      = V (ix3 (0 : Fin 2) r q) + V (ix3 (1 : Fin 2) r q) := by
  simp only [pointwise, Ideal.hostReduceAdd_def]
  rw [zero_add, Fin.sum_univ_two]; rfl

/-- The reference's run, keeping its argument; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- From memories in which every device holds its block of the reference's array: the kernel and the reference both run, and every
    device's result is the reference's. -/
theorem algebraic : Cert.algebraic_KernelIdeal_ReferenceIdeal := fun m g m' g' _ hin =>
  let V : (⟨3, ![2, 2048, 2048]⟩ : Shape).Idx → EReal := m' (((0 : Dev Cert.ReferenceIdeal.nD).tc : Thread Cert.ReferenceIdeal.nD Cert.ReferenceIdeal.τ).loc Cert.ReferenceIdeal.main_arg0)
  have hV : staged m = blockAt V := funext fun c => funext fun j => (staged_apply m c j).trans (congrFun (hin c) j)
  have hout (c : Dev nD) : outAt (staged m) c
      = Host.reduceAdd (F := Ideal) (φ := .f32) V (constant (F := Ideal) ⟨0, ![]⟩ .f32 0x00000000#32) (axes := [0]) (t := S2048x2048)
        Cert.ReferenceIdeal.Gen.reducesTo_S2x2048x2048_S2048x2048_d0 Cert.ReferenceIdeal.Gen.h_S_ := by
    rw [hV]
    funext j
    obtain ⟨r, q, rfl⟩ : ∃ (r q : Fin 2048), j = ix2 r q := ⟨j 0, j 1, eq_ix2 j⟩
    exact (outAt_blocks V c r q).trans (reference_sum V _ _ r q).symm
  ⟨_, (θ_run Cert.KernelIdeal.defs _ _).mono (fun _ h c => ⟨((h.1 c).1).trans (hout c), (h.1 c).2⟩) (run_values m g),
    (θ_run Cert.ReferenceIdeal.defs _ _).mono (fun _ h => h 0) (Cert.ReferenceIdeal.Value.run m' g')⟩

end Cert.MeshSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel is printed twice with one text: its body table is the same, -/
theorem bodies_eq {F : FTy → Type} [FloatOps F] : Cert.Kernel.defs₀ (F := F) = Cert.KernelIdeal.defs₀ := by
  unfold Cert.Kernel.defs₀ Cert.KernelIdeal.defs₀
  refine congrArg Defs.onTc (funext fun ℓ => funext fun x => ?_)
  obtain ⟨_ | _, h⟩ := ℓ
  · rfl
  · exact absurd h (Nat.not_lt.2 (Nat.le_add_left _ _))
/-- and so is the table the program runs. -/
theorem tables_eq {F : FTy → Type} [FloatOps F] : Cert.Kernel.defs (F := F) = Cert.KernelIdeal.defs :=
  congrArg (Pipeline.defs Cert.KernelIdeal.pcfgs) bodies_eq

/-- At any float values the kernel runs, keeps its argument and ends with every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (Cert.MeshSum.run_values m ρ)

theorem frame_ideal : Cert.quiescent_KernelIdeal := fun m ρ _ => frame_any m ρ
theorem frame_kernel : Cert.quiescent_Kernel := fun m ρ _ => by
  rw [tables_eq]
  exact frame_any (F := Bits) m ρ

theorem claim : Cert.Claim := ⟨Cert.Kernel.Gen.facts, Cert.KernelIdeal.Gen.facts, Cert.ReferenceIdeal.Gen.facts,
  frame_kernel, frame_ideal, Cert.MeshSum.frame_reference, trivial, Cert.MeshSum.algebraic⟩

end Cert.Proof

end
